-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S3x4x128x128 : Shape := ⟨4, ![3, 4, 128, 128]⟩
abbrev S3x4 : Shape := ⟨2, ![3, 4]⟩
abbrev S_ : Shape := ⟨0, ![]⟩
abbrev S1x1x128x128 : Shape := ⟨4, ![1, 1, 128, 128]⟩
abbrev S1x1 : Shape := ⟨2, ![1, 1]⟩
abbrev S1x3x128x128 : Shape := ⟨4, ![1, 3, 128, 128]⟩
abbrev S3x128x128 : Shape := ⟨3, ![3, 128, 128]⟩

abbrev nBuf : Space → Nat
  | .hbm => 8
  | .vmem => 10
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S256x128, .bf16⟩
  | .hbm, ⟨3, _⟩ => ⟨S128x256, .bf16⟩
  | .hbm, ⟨4, _⟩ => ⟨S256x128, .bf16⟩
  | .hbm, ⟨5, _⟩ => ⟨S128x256, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S3x4x128x128, .bf16⟩
  | .local _ .vmem, ⟨9, _⟩ => ⟨S3x4x128x128, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v31 : BitVec 32 := Scalar.addi v2 c1_i32_11
  let c16_i32_12 : BitVec 32 := 16#32
  let c0_i32_13 : BitVec 32 := 0#32
  let v32 : BitVec 1 := Scalar.cmpi .eq c16_i32_12 c0_i32_13
  let c1_i32_14 : BitVec 32 := 1#32
  let v33 : BitVec 32 := Scalar.select v32 c1_i32_14 c16_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c1_i32_19 : BitVec 32 := 1#32
  let v42 : BitVec 32 := Scalar.muli v41 c1_i32_19
  let v43 : BitVec 32 := Scalar.addi c0_i32_20 v42
  v43.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v44 : BitVec 32 := Scalar.addi v2 c2_i32
  let c16_i32_21 : BitVec 32 := 16#32
  let c0_i32_22 : BitVec 32 := 0#32
  let v45 : BitVec 1 := Scalar.cmpi .eq c16_i32_21 c0_i32_22
  let c1_i32_23 : BitVec 32 := 1#32
  let v46 : BitVec 32 := Scalar.select v45 c1_i32_23 c16_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let c1_i32_28 : BitVec 32 := 1#32
  let v55 : BitVec 32 := Scalar.muli v54 c1_i32_28
  let v56 : BitVec 32 := Scalar.addi c0_i32_29 v55
  v56.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v57 : BitVec 32 := Scalar.addi v2 c3_i32
  let c16_i32_30 : BitVec 32 := 16#32
  let c0_i32_31 : BitVec 32 := 0#32
  let v58 : BitVec 1 := Scalar.cmpi .eq c16_i32_30 c0_i32_31
  let c1_i32_32 : BitVec 32 := 1#32
  let v59 : BitVec 32 := Scalar.select v58 c1_i32_32 c16_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c1_i32_37 : BitVec 32 := 1#32
  let v68 : BitVec 32 := Scalar.muli v67 c1_i32_37
  let v69 : BitVec 32 := Scalar.addi c0_i32_38 v68
  v69.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v70 : BitVec 32 := Scalar.addi v2 c4_i32_39
  let c16_i32_40 : BitVec 32 := 16#32
  let c0_i32_41 : BitVec 32 := 0#32
  let v71 : BitVec 1 := Scalar.cmpi .eq c16_i32_40 c0_i32_41
  let c1_i32_42 : BitVec 32 := 1#32
  let v72 : BitVec 32 := Scalar.select v71 c1_i32_42 c16_i32_40
  let v73 : BitVec 32 := Scalar.remsi v70 v72
  let c0_i32_44 : BitVec 32 := 0#32
  let v75 : BitVec 1 := Scalar.cmpi .slt v73 c0_i32_44
  let c0_i32_45 : BitVec 32 := 0#32
  let v76 : BitVec 1 := Scalar.cmpi .slt v72 c0_i32_45
  let v77 : BitVec 1 := Scalar.xori v75 v76
  let c0_i32_43 : BitVec 32 := 0#32
  let v74 : BitVec 1 := Scalar.cmpi .ne v73 c0_i32_43
  let v78 : BitVec 1 := Scalar.andi v77 v74
  let v79 : BitVec 32 := Scalar.addi v73 v72
  let v80 : BitVec 32 := Scalar.select v78 v79 v73
  let c1_i32_47 : BitVec 32 := 1#32
  let v81 : BitVec 32 := Scalar.muli v80 c1_i32_47
  let v82 : BitVec 32 := Scalar.addi c0_i32_48 v81
  v82.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v83 : BitVec 32 := Scalar.addi v2 c5_i32
  let c16_i32_49 : BitVec 32 := 16#32
  let c0_i32_50 : BitVec 32 := 0#32
  let v84 : BitVec 1 := Scalar.cmpi .eq c16_i32_49 c0_i32_50
  let c1_i32_51 : BitVec 32 := 1#32
  let v85 : BitVec 32 := Scalar.select v84 c1_i32_51 c16_i32_49
  let v86 : BitVec 32 := Scalar.remsi v83 v85
  let c0_i32_53 : BitVec 32 := 0#32
  let v88 : BitVec 1 := Scalar.cmpi .slt v86 c0_i32_53
  let c0_i32_54 : BitVec 32 := 0#32
  let v89 : BitVec 1 := Scalar.cmpi .slt v85 c0_i32_54
  let v90 : BitVec 1 := Scalar.xori v88 v89
  let c0_i32_52 : BitVec 32 := 0#32
  let v87 : BitVec 1 := Scalar.cmpi .ne v86 c0_i32_52
  let v91 : BitVec 1 := Scalar.andi v90 v87
  let v92 : BitVec 32 := Scalar.addi v86 v85
  let v93 : BitVec 32 := Scalar.select v91 v92 v86
  let c1_i32_56 : BitVec 32 := 1#32
  let v94 : BitVec 32 := Scalar.muli v93 c1_i32_56
  let v95 : BitVec 32 := Scalar.addi c0_i32_57 v94
  v95.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v96 : BitVec 32 := Scalar.addi v2 c6_i32
  let c16_i32_58 : BitVec 32 := 16#32
  let c0_i32_59 : BitVec 32 := 0#32
  let v97 : BitVec 1 := Scalar.cmpi .eq c16_i32_58 c0_i32_59
  let c1_i32_60 : BitVec 32 := 1#32
  let v98 : BitVec 32 := Scalar.select v97 c1_i32_60 c16_i32_58
  let v99 : BitVec 32 := Scalar.remsi v96 v98
  let c0_i32_62 : BitVec 32 := 0#32
  let v101 : BitVec 1 := Scalar.cmpi .slt v99 c0_i32_62
  let c0_i32_63 : BitVec 32 := 0#32
  let v102 : BitVec 1 := Scalar.cmpi .slt v98 c0_i32_63
  let v103 : BitVec 1 := Scalar.xori v101 v102
  let c0_i32_61 : BitVec 32 := 0#32
  let v100 : BitVec 1 := Scalar.cmpi .ne v99 c0_i32_61
  let v104 : BitVec 1 := Scalar.andi v103 v100
  let v105 : BitVec 32 := Scalar.addi v99 v98
  let v106 : BitVec 32 := Scalar.select v104 v105 v99
  let c1_i32_65 : BitVec 32 := 1#32
  let v107 : BitVec 32 := Scalar.muli v106 c1_i32_65
  let v108 : BitVec 32 := Scalar.addi c0_i32_66 v107
  v108.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v109 : BitVec 32 := Scalar.addi v2 c7_i32
  let c16_i32_67 : BitVec 32 := 16#32
  let c0_i32_68 : BitVec 32 := 0#32
  let v110 : BitVec 1 := Scalar.cmpi .eq c16_i32_67 c0_i32_68
  let c1_i32_69 : BitVec 32 := 1#32
  let v111 : BitVec 32 := Scalar.select v110 c1_i32_69 c16_i32_67
  let v112 : BitVec 32 := Scalar.remsi v109 v111
  let c0_i32_71 : BitVec 32 := 0#32
  let v114 : BitVec 1 := Scalar.cmpi .slt v112 c0_i32_71
  let c0_i32_72 : BitVec 32 := 0#32
  let v115 : BitVec 1 := Scalar.cmpi .slt v111 c0_i32_72
  let v116 : BitVec 1 := Scalar.xori v114 v115
  let c0_i32_70 : BitVec 32 := 0#32
  let v113 : BitVec 1 := Scalar.cmpi .ne v112 c0_i32_70
  let v117 : BitVec 1 := Scalar.andi v116 v113
  let v118 : BitVec 32 := Scalar.addi v112 v111
  let v119 : BitVec 32 := Scalar.select v117 v118 v112
  let c1_i32_74 : BitVec 32 := 1#32
  let v120 : BitVec 32 := Scalar.muli v119 c1_i32_74
  let v121 : BitVec 32 := Scalar.addi c0_i32_75 v120
  v121.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v122 : BitVec 32 := Scalar.addi v2 c8_i32
  let c16_i32_76 : BitVec 32 := 16#32
  let c0_i32_77 : BitVec 32 := 0#32
  let v123 : BitVec 1 := Scalar.cmpi .eq c16_i32_76 c0_i32_77
  let c1_i32_78 : BitVec 32 := 1#32
  let v124 : BitVec 32 := Scalar.select v123 c1_i32_78 c16_i32_76
  let v125 : BitVec 32 := Scalar.remsi v122 v124
  let c0_i32_80 : BitVec 32 := 0#32
  let v127 : BitVec 1 := Scalar.cmpi .slt v125 c0_i32_80
  let c0_i32_81 : BitVec 32 := 0#32
  let v128 : BitVec 1 := Scalar.cmpi .slt v124 c0_i32_81
  let v129 : BitVec 1 := Scalar.xori v127 v128
  let c0_i32_79 : BitVec 32 := 0#32
  let v126 : BitVec 1 := Scalar.cmpi .ne v125 c0_i32_79
  let v130 : BitVec 1 := Scalar.andi v129 v126
  let v131 : BitVec 32 := Scalar.addi v125 v124
  let v132 : BitVec 32 := Scalar.select v130 v131 v125
  let c1_i32_83 : BitVec 32 := 1#32
  let v133 : BitVec 32 := Scalar.muli v132 c1_i32_83
  let v134 : BitVec 32 := Scalar.addi c0_i32_84 v133
  v134.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v135 : BitVec 32 := Scalar.addi v2 c9_i32
  let c16_i32_85 : BitVec 32 := 16#32
  let c0_i32_86 : BitVec 32 := 0#32
  let v136 : BitVec 1 := Scalar.cmpi .eq c16_i32_85 c0_i32_86
  let c1_i32_87 : BitVec 32 := 1#32
  let v137 : BitVec 32 := Scalar.select v136 c1_i32_87 c16_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c1_i32_92 : BitVec 32 := 1#32
  let v146 : BitVec 32 := Scalar.muli v145 c1_i32_92
  let v147 : BitVec 32 := Scalar.addi c0_i32_93 v146
  v147.toNat
def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v148 : BitVec 32 := Scalar.addi v2 c10_i32
  let c16_i32_94 : BitVec 32 := 16#32
  let c0_i32_95 : BitVec 32 := 0#32
  let v149 : BitVec 1 := Scalar.cmpi .eq c16_i32_94 c0_i32_95
  let c1_i32_96 : BitVec 32 := 1#32
  let v150 : BitVec 32 := Scalar.select v149 c1_i32_96 c16_i32_94
  let v151 : BitVec 32 := Scalar.remsi v148 v150
  let c0_i32_98 : BitVec 32 := 0#32
  let v153 : BitVec 1 := Scalar.cmpi .slt v151 c0_i32_98
  let c0_i32_99 : BitVec 32 := 0#32
  let v154 : BitVec 1 := Scalar.cmpi .slt v150 c0_i32_99
  let v155 : BitVec 1 := Scalar.xori v153 v154
  let c0_i32_97 : BitVec 32 := 0#32
  let v152 : BitVec 1 := Scalar.cmpi .ne v151 c0_i32_97
  let v156 : BitVec 1 := Scalar.andi v155 v152
  let v157 : BitVec 32 := Scalar.addi v151 v150
  let v158 : BitVec 32 := Scalar.select v156 v157 v151
  let c1_i32_101 : BitVec 32 := 1#32
  let v159 : BitVec 32 := Scalar.muli v158 c1_i32_101
  let v160 : BitVec 32 := Scalar.addi c0_i32_102 v159
  v160.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v161 : BitVec 32 := Scalar.addi v2 c11_i32
  let c16_i32_103 : BitVec 32 := 16#32
  let c0_i32_104 : BitVec 32 := 0#32
  let v162 : BitVec 1 := Scalar.cmpi .eq c16_i32_103 c0_i32_104
  let c1_i32_105 : BitVec 32 := 1#32
  let v163 : BitVec 32 := Scalar.select v162 c1_i32_105 c16_i32_103
  let v164 : BitVec 32 := Scalar.remsi v161 v163
  let c0_i32_107 : BitVec 32 := 0#32
  let v166 : BitVec 1 := Scalar.cmpi .slt v164 c0_i32_107
  let c0_i32_108 : BitVec 32 := 0#32
  let v167 : BitVec 1 := Scalar.cmpi .slt v163 c0_i32_108
  let v168 : BitVec 1 := Scalar.xori v166 v167
  let c0_i32_106 : BitVec 32 := 0#32
  let v165 : BitVec 1 := Scalar.cmpi .ne v164 c0_i32_106
  let v169 : BitVec 1 := Scalar.andi v168 v165
  let v170 : BitVec 32 := Scalar.addi v164 v163
  let v171 : BitVec 32 := Scalar.select v169 v170 v164
  let c1_i32_110 : BitVec 32 := 1#32
  let v172 : BitVec 32 := Scalar.muli v171 c1_i32_110
  let v173 : BitVec 32 := Scalar.addi c0_i32_111 v172
  v173.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v174 : BitVec 32 := Scalar.addi v2 c12_i32
  let c16_i32_112 : BitVec 32 := 16#32
  let c0_i32_113 : BitVec 32 := 0#32
  let v175 : BitVec 1 := Scalar.cmpi .eq c16_i32_112 c0_i32_113
  let c1_i32_114 : BitVec 32 := 1#32
  let v176 : BitVec 32 := Scalar.select v175 c1_i32_114 c16_i32_112
  let v177 : BitVec 32 := Scalar.remsi v174 v176
  let c0_i32_116 : BitVec 32 := 0#32
  let v179 : BitVec 1 := Scalar.cmpi .slt v177 c0_i32_116
  let c0_i32_117 : BitVec 32 := 0#32
  let v180 : BitVec 1 := Scalar.cmpi .slt v176 c0_i32_117
  let v181 : BitVec 1 := Scalar.xori v179 v180
  let c0_i32_115 : BitVec 32 := 0#32
  let v178 : BitVec 1 := Scalar.cmpi .ne v177 c0_i32_115
  let v182 : BitVec 1 := Scalar.andi v181 v178
  let v183 : BitVec 32 := Scalar.addi v177 v176
  let v184 : BitVec 32 := Scalar.select v182 v183 v177
  let c1_i32_119 : BitVec 32 := 1#32
  let v185 : BitVec 32 := Scalar.muli v184 c1_i32_119
  let v186 : BitVec 32 := Scalar.addi c0_i32_120 v185
  v186.toNat
def k0_dev13 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v187 : BitVec 32 := Scalar.addi v2 c13_i32
  let c16_i32_121 : BitVec 32 := 16#32
  let c0_i32_122 : BitVec 32 := 0#32
  let v188 : BitVec 1 := Scalar.cmpi .eq c16_i32_121 c0_i32_122
  let c1_i32_123 : BitVec 32 := 1#32
  let v189 : BitVec 32 := Scalar.select v188 c1_i32_123 c16_i32_121
  let v190 : BitVec 32 := Scalar.remsi v187 v189
  let c0_i32_125 : BitVec 32 := 0#32
  let v192 : BitVec 1 := Scalar.cmpi .slt v190 c0_i32_125
  let c0_i32_126 : BitVec 32 := 0#32
  let v193 : BitVec 1 := Scalar.cmpi .slt v189 c0_i32_126
  let v194 : BitVec 1 := Scalar.xori v192 v193
  let c0_i32_124 : BitVec 32 := 0#32
  let v191 : BitVec 1 := Scalar.cmpi .ne v190 c0_i32_124
  let v195 : BitVec 1 := Scalar.andi v194 v191
  let v196 : BitVec 32 := Scalar.addi v190 v189
  let v197 : BitVec 32 := Scalar.select v195 v196 v190
  let c1_i32_128 : BitVec 32 := 1#32
  let v198 : BitVec 32 := Scalar.muli v197 c1_i32_128
  let v199 : BitVec 32 := Scalar.addi c0_i32_129 v198
  v199.toNat
def k0_dev14 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v200 : BitVec 32 := Scalar.addi v2 c14_i32
  let c16_i32_130 : BitVec 32 := 16#32
  let c0_i32_131 : BitVec 32 := 0#32
  let v201 : BitVec 1 := Scalar.cmpi .eq c16_i32_130 c0_i32_131
  let c1_i32_132 : BitVec 32 := 1#32
  let v202 : BitVec 32 := Scalar.select v201 c1_i32_132 c16_i32_130
  let v203 : BitVec 32 := Scalar.remsi v200 v202
  let c0_i32_134 : BitVec 32 := 0#32
  let v205 : BitVec 1 := Scalar.cmpi .slt v203 c0_i32_134
  let c0_i32_135 : BitVec 32 := 0#32
  let v206 : BitVec 1 := Scalar.cmpi .slt v202 c0_i32_135
  let v207 : BitVec 1 := Scalar.xori v205 v206
  let c0_i32_133 : BitVec 32 := 0#32
  let v204 : BitVec 1 := Scalar.cmpi .ne v203 c0_i32_133
  let v208 : BitVec 1 := Scalar.andi v207 v204
  let v209 : BitVec 32 := Scalar.addi v203 v202
  let v210 : BitVec 32 := Scalar.select v208 v209 v203
  let c1_i32_137 : BitVec 32 := 1#32
  let v211 : BitVec 32 := Scalar.muli v210 c1_i32_137
  let v212 : BitVec 32 := Scalar.addi c0_i32_138 v211
  v212.toNat
def k0_dev15 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v213 : BitVec 32 := Scalar.addi v2 c15_i32
  let c16_i32_139 : BitVec 32 := 16#32
  let c0_i32_140 : BitVec 32 := 0#32
  let v214 : BitVec 1 := Scalar.cmpi .eq c16_i32_139 c0_i32_140
  let c1_i32_141 : BitVec 32 := 1#32
  let v215 : BitVec 32 := Scalar.select v214 c1_i32_141 c16_i32_139
  let v216 : BitVec 32 := Scalar.remsi v213 v215
  let c0_i32_143 : BitVec 32 := 0#32
  let v218 : BitVec 1 := Scalar.cmpi .slt v216 c0_i32_143
  let c0_i32_144 : BitVec 32 := 0#32
  let v219 : BitVec 1 := Scalar.cmpi .slt v215 c0_i32_144
  let v220 : BitVec 1 := Scalar.xori v218 v219
  let c0_i32_142 : BitVec 32 := 0#32
  let v217 : BitVec 1 := Scalar.cmpi .ne v216 c0_i32_142
  let v221 : BitVec 1 := Scalar.andi v220 v217
  let v222 : BitVec 32 := Scalar.addi v216 v215
  let v223 : BitVec 32 := Scalar.select v221 v222 v216
  let c1_i32_146 : BitVec 32 := 1#32
  let v224 : BitVec 32 := Scalar.muli v223 c1_i32_146
  let v225 : BitVec 32 := Scalar.addi c0_i32_147 v224
  v225.toNat
def k0_dev16 (d0 : Dev nD) : Nat :=
  let c0_i32_177 : BitVec 32 := 0#32
  let c4_i32_167 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_160 : BitVec 32 := 1#32
  let v241 : BitVec 32 := Scalar.addi v19 c1_i32_160
  let c4_i32_161 : BitVec 32 := 4#32
  let c0_i32_162 : BitVec 32 := 0#32
  let v242 : BitVec 1 := Scalar.cmpi .eq c4_i32_161 c0_i32_162
  let c1_i32_163 : BitVec 32 := 1#32
  let v243 : BitVec 32 := Scalar.select v242 c1_i32_163 c4_i32_161
  let v244 : BitVec 32 := Scalar.remsi v241 v243
  let c0_i32_165 : BitVec 32 := 0#32
  let v246 : BitVec 1 := Scalar.cmpi .slt v244 c0_i32_165
  let c0_i32_166 : BitVec 32 := 0#32
  let v247 : BitVec 1 := Scalar.cmpi .slt v243 c0_i32_166
  let v248 : BitVec 1 := Scalar.xori v246 v247
  let c0_i32_164 : BitVec 32 := 0#32
  let v245 : BitVec 1 := Scalar.cmpi .ne v244 c0_i32_164
  let v249 : BitVec 1 := Scalar.andi v248 v245
  let v250 : BitVec 32 := Scalar.addi v244 v243
  let v251 : BitVec 32 := Scalar.select v249 v250 v244
  let v252 : BitVec 32 := Scalar.muli c4_i32_167 v251
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v253 : BitVec 32 := Scalar.addi v252 v29
  let c1_i32_176 : BitVec 32 := 1#32
  let v254 : BitVec 32 := Scalar.muli v253 c1_i32_176
  let v255 : BitVec 32 := Scalar.addi c0_i32_177 v254
  v255.toNat
def k0_dev17 (d0 : Dev nD) : Nat :=
  let c0_i32_199 : BitVec 32 := 0#32
  let c4_i32_189 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_182 : BitVec 32 := 2#32
  let v264 : BitVec 32 := Scalar.addi v19 c2_i32_182
  let c4_i32_183 : BitVec 32 := 4#32
  let c0_i32_184 : BitVec 32 := 0#32
  let v265 : BitVec 1 := Scalar.cmpi .eq c4_i32_183 c0_i32_184
  let c1_i32_185 : BitVec 32 := 1#32
  let v266 : BitVec 32 := Scalar.select v265 c1_i32_185 c4_i32_183
  let v267 : BitVec 32 := Scalar.remsi v264 v266
  let c0_i32_187 : BitVec 32 := 0#32
  let v269 : BitVec 1 := Scalar.cmpi .slt v267 c0_i32_187
  let c0_i32_188 : BitVec 32 := 0#32
  let v270 : BitVec 1 := Scalar.cmpi .slt v266 c0_i32_188
  let v271 : BitVec 1 := Scalar.xori v269 v270
  let c0_i32_186 : BitVec 32 := 0#32
  let v268 : BitVec 1 := Scalar.cmpi .ne v267 c0_i32_186
  let v272 : BitVec 1 := Scalar.andi v271 v268
  let v273 : BitVec 32 := Scalar.addi v267 v266
  let v274 : BitVec 32 := Scalar.select v272 v273 v267
  let v275 : BitVec 32 := Scalar.muli c4_i32_189 v274
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v276 : BitVec 32 := Scalar.addi v275 v29
  let c1_i32_198 : BitVec 32 := 1#32
  let v277 : BitVec 32 := Scalar.muli v276 c1_i32_198
  let v278 : BitVec 32 := Scalar.addi c0_i32_199 v277
  v278.toNat
def k0_dev18 (d0 : Dev nD) : Nat :=
  let c0_i32_221 : BitVec 32 := 0#32
  let c4_i32_211 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_204 : BitVec 32 := 3#32
  let v287 : BitVec 32 := Scalar.addi v19 c3_i32_204
  let c4_i32_205 : BitVec 32 := 4#32
  let c0_i32_206 : BitVec 32 := 0#32
  let v288 : BitVec 1 := Scalar.cmpi .eq c4_i32_205 c0_i32_206
  let c1_i32_207 : BitVec 32 := 1#32
  let v289 : BitVec 32 := Scalar.select v288 c1_i32_207 c4_i32_205
  let v290 : BitVec 32 := Scalar.remsi v287 v289
  let c0_i32_209 : BitVec 32 := 0#32
  let v292 : BitVec 1 := Scalar.cmpi .slt v290 c0_i32_209
  let c0_i32_210 : BitVec 32 := 0#32
  let v293 : BitVec 1 := Scalar.cmpi .slt v289 c0_i32_210
  let v294 : BitVec 1 := Scalar.xori v292 v293
  let c0_i32_208 : BitVec 32 := 0#32
  let v291 : BitVec 1 := Scalar.cmpi .ne v290 c0_i32_208
  let v295 : BitVec 1 := Scalar.andi v294 v291
  let v296 : BitVec 32 := Scalar.addi v290 v289
  let v297 : BitVec 32 := Scalar.select v295 v296 v290
  let v298 : BitVec 32 := Scalar.muli c4_i32_211 v297
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v299 : BitVec 32 := Scalar.addi v298 v29
  let c1_i32_220 : BitVec 32 := 1#32
  let v300 : BitVec 32 := Scalar.muli v299 c1_i32_220
  let v301 : BitVec 32 := Scalar.addi c0_i32_221 v300
  v301.toNat
def k0_dev19 (d0 : Dev nD) : Nat :=
  let c0_i32_293 : BitVec 32 := 0#32
  let c4_i32_276 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v343 : BitVec 32 := Scalar.muli c4_i32_276 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_277 : BitVec 32 := 1#32
  let v344 : BitVec 32 := Scalar.addi v29 c1_i32_277
  let c4_i32_278 : BitVec 32 := 4#32
  let c0_i32_279 : BitVec 32 := 0#32
  let v345 : BitVec 1 := Scalar.cmpi .eq c4_i32_278 c0_i32_279
  let c1_i32_280 : BitVec 32 := 1#32
  let v346 : BitVec 32 := Scalar.select v345 c1_i32_280 c4_i32_278
  let v347 : BitVec 32 := Scalar.remsi v344 v346
  let c0_i32_282 : BitVec 32 := 0#32
  let v349 : BitVec 1 := Scalar.cmpi .slt v347 c0_i32_282
  let c0_i32_283 : BitVec 32 := 0#32
  let v350 : BitVec 1 := Scalar.cmpi .slt v346 c0_i32_283
  let v351 : BitVec 1 := Scalar.xori v349 v350
  let c0_i32_281 : BitVec 32 := 0#32
  let v348 : BitVec 1 := Scalar.cmpi .ne v347 c0_i32_281
  let v352 : BitVec 1 := Scalar.andi v351 v348
  let v353 : BitVec 32 := Scalar.addi v347 v346
  let v354 : BitVec 32 := Scalar.select v352 v353 v347
  let v355 : BitVec 32 := Scalar.addi v343 v354
  let c1_i32_292 : BitVec 32 := 1#32
  let v356 : BitVec 32 := Scalar.muli v355 c1_i32_292
  let v357 : BitVec 32 := Scalar.addi c0_i32_293 v356
  v357.toNat
def k0_dev20 (d0 : Dev nD) : Nat :=
  let c0_i32_315 : BitVec 32 := 0#32
  let c4_i32_298 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v366 : BitVec 32 := Scalar.muli c4_i32_298 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_299 : BitVec 32 := 2#32
  let v367 : BitVec 32 := Scalar.addi v29 c2_i32_299
  let c4_i32_300 : BitVec 32 := 4#32
  let c0_i32_301 : BitVec 32 := 0#32
  let v368 : BitVec 1 := Scalar.cmpi .eq c4_i32_300 c0_i32_301
  let c1_i32_302 : BitVec 32 := 1#32
  let v369 : BitVec 32 := Scalar.select v368 c1_i32_302 c4_i32_300
  let v370 : BitVec 32 := Scalar.remsi v367 v369
  let c0_i32_304 : BitVec 32 := 0#32
  let v372 : BitVec 1 := Scalar.cmpi .slt v370 c0_i32_304
  let c0_i32_305 : BitVec 32 := 0#32
  let v373 : BitVec 1 := Scalar.cmpi .slt v369 c0_i32_305
  let v374 : BitVec 1 := Scalar.xori v372 v373
  let c0_i32_303 : BitVec 32 := 0#32
  let v371 : BitVec 1 := Scalar.cmpi .ne v370 c0_i32_303
  let v375 : BitVec 1 := Scalar.andi v374 v371
  let v376 : BitVec 32 := Scalar.addi v370 v369
  let v377 : BitVec 32 := Scalar.select v375 v376 v370
  let v378 : BitVec 32 := Scalar.addi v366 v377
  let c1_i32_314 : BitVec 32 := 1#32
  let v379 : BitVec 32 := Scalar.muli v378 c1_i32_314
  let v380 : BitVec 32 := Scalar.addi c0_i32_315 v379
  v380.toNat
def k0_dev21 (d0 : Dev nD) : Nat :=
  let c0_i32_337 : BitVec 32 := 0#32
  let c4_i32_320 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v389 : BitVec 32 := Scalar.muli c4_i32_320 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_321 : BitVec 32 := 3#32
  let v390 : BitVec 32 := Scalar.addi v29 c3_i32_321
  let c4_i32_322 : BitVec 32 := 4#32
  let c0_i32_323 : BitVec 32 := 0#32
  let v391 : BitVec 1 := Scalar.cmpi .eq c4_i32_322 c0_i32_323
  let c1_i32_324 : BitVec 32 := 1#32
  let v392 : BitVec 32 := Scalar.select v391 c1_i32_324 c4_i32_322
  let v393 : BitVec 32 := Scalar.remsi v390 v392
  let c0_i32_326 : BitVec 32 := 0#32
  let v395 : BitVec 1 := Scalar.cmpi .slt v393 c0_i32_326
  let c0_i32_327 : BitVec 32 := 0#32
  let v396 : BitVec 1 := Scalar.cmpi .slt v392 c0_i32_327
  let v397 : BitVec 1 := Scalar.xori v395 v396
  let c0_i32_325 : BitVec 32 := 0#32
  let v394 : BitVec 1 := Scalar.cmpi .ne v393 c0_i32_325
  let v398 : BitVec 1 := Scalar.andi v397 v394
  let v399 : BitVec 32 := Scalar.addi v393 v392
  let v400 : BitVec 32 := Scalar.select v398 v399 v393
  let v401 : BitVec 32 := Scalar.addi v389 v400
  let c1_i32_336 : BitVec 32 := 1#32
  let v402 : BitVec 32 := Scalar.muli v401 c1_i32_336
  let v403 : BitVec 32 := Scalar.addi c0_i32_337 v402
  v403.toNat
def k0_dev22 (d0 : Dev nD) : Nat :=
  let c0_i32_417 : BitVec 32 := 0#32
  let c4_i32_407 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_400 : BitVec 32 := 1#32
  let v455 : BitVec 32 := Scalar.addi v19 c1_i32_400
  let c4_i32_401 : BitVec 32 := 4#32
  let c0_i32_402 : BitVec 32 := 0#32
  let v456 : BitVec 1 := Scalar.cmpi .eq c4_i32_401 c0_i32_402
  let c1_i32_403 : BitVec 32 := 1#32
  let v457 : BitVec 32 := Scalar.select v456 c1_i32_403 c4_i32_401
  let v458 : BitVec 32 := Scalar.remsi v455 v457
  let c0_i32_405 : BitVec 32 := 0#32
  let v460 : BitVec 1 := Scalar.cmpi .slt v458 c0_i32_405
  let c0_i32_406 : BitVec 32 := 0#32
  let v461 : BitVec 1 := Scalar.cmpi .slt v457 c0_i32_406
  let v462 : BitVec 1 := Scalar.xori v460 v461
  let c0_i32_404 : BitVec 32 := 0#32
  let v459 : BitVec 1 := Scalar.cmpi .ne v458 c0_i32_404
  let v463 : BitVec 1 := Scalar.andi v462 v459
  let v464 : BitVec 32 := Scalar.addi v458 v457
  let v465 : BitVec 32 := Scalar.select v463 v464 v458
  let v466 : BitVec 32 := Scalar.muli c4_i32_407 v465
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v467 : BitVec 32 := Scalar.addi v466 v29
  let c1_i32_416 : BitVec 32 := 1#32
  let v468 : BitVec 32 := Scalar.muli v467 c1_i32_416
  let v469 : BitVec 32 := Scalar.addi c0_i32_417 v468
  v469.toNat
def k0_dev23 (d0 : Dev nD) : Nat :=
  let c0_i32_439 : BitVec 32 := 0#32
  let c4_i32_429 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_422 : BitVec 32 := 2#32
  let v478 : BitVec 32 := Scalar.addi v19 c2_i32_422
  let c4_i32_423 : BitVec 32 := 4#32
  let c0_i32_424 : BitVec 32 := 0#32
  let v479 : BitVec 1 := Scalar.cmpi .eq c4_i32_423 c0_i32_424
  let c1_i32_425 : BitVec 32 := 1#32
  let v480 : BitVec 32 := Scalar.select v479 c1_i32_425 c4_i32_423
  let v481 : BitVec 32 := Scalar.remsi v478 v480
  let c0_i32_427 : BitVec 32 := 0#32
  let v483 : BitVec 1 := Scalar.cmpi .slt v481 c0_i32_427
  let c0_i32_428 : BitVec 32 := 0#32
  let v484 : BitVec 1 := Scalar.cmpi .slt v480 c0_i32_428
  let v485 : BitVec 1 := Scalar.xori v483 v484
  let c0_i32_426 : BitVec 32 := 0#32
  let v482 : BitVec 1 := Scalar.cmpi .ne v481 c0_i32_426
  let v486 : BitVec 1 := Scalar.andi v485 v482
  let v487 : BitVec 32 := Scalar.addi v481 v480
  let v488 : BitVec 32 := Scalar.select v486 v487 v481
  let v489 : BitVec 32 := Scalar.muli c4_i32_429 v488
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v490 : BitVec 32 := Scalar.addi v489 v29
  let c1_i32_438 : BitVec 32 := 1#32
  let v491 : BitVec 32 := Scalar.muli v490 c1_i32_438
  let v492 : BitVec 32 := Scalar.addi c0_i32_439 v491
  v492.toNat
def k0_dev24 (d0 : Dev nD) : Nat :=
  let c0_i32_461 : BitVec 32 := 0#32
  let c4_i32_451 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_444 : BitVec 32 := 3#32
  let v501 : BitVec 32 := Scalar.addi v19 c3_i32_444
  let c4_i32_445 : BitVec 32 := 4#32
  let c0_i32_446 : BitVec 32 := 0#32
  let v502 : BitVec 1 := Scalar.cmpi .eq c4_i32_445 c0_i32_446
  let c1_i32_447 : BitVec 32 := 1#32
  let v503 : BitVec 32 := Scalar.select v502 c1_i32_447 c4_i32_445
  let v504 : BitVec 32 := Scalar.remsi v501 v503
  let c0_i32_449 : BitVec 32 := 0#32
  let v506 : BitVec 1 := Scalar.cmpi .slt v504 c0_i32_449
  let c0_i32_450 : BitVec 32 := 0#32
  let v507 : BitVec 1 := Scalar.cmpi .slt v503 c0_i32_450
  let v508 : BitVec 1 := Scalar.xori v506 v507
  let c0_i32_448 : BitVec 32 := 0#32
  let v505 : BitVec 1 := Scalar.cmpi .ne v504 c0_i32_448
  let v509 : BitVec 1 := Scalar.andi v508 v505
  let v510 : BitVec 32 := Scalar.addi v504 v503
  let v511 : BitVec 32 := Scalar.select v509 v510 v504
  let v512 : BitVec 32 := Scalar.muli c4_i32_451 v511
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v513 : BitVec 32 := Scalar.addi v512 v29
  let c1_i32_460 : BitVec 32 := 1#32
  let v514 : BitVec 32 := Scalar.muli v513 c1_i32_460
  let v515 : BitVec 32 := Scalar.addi c0_i32_461 v514
  v515.toNat
def k0_dev25 (d0 : Dev nD) : Nat :=
  let c0_i32_534 : BitVec 32 := 0#32
  let c4_i32_517 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v557 : BitVec 32 := Scalar.muli c4_i32_517 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_518 : BitVec 32 := 1#32
  let v558 : BitVec 32 := Scalar.addi v29 c1_i32_518
  let c4_i32_519 : BitVec 32 := 4#32
  let c0_i32_520 : BitVec 32 := 0#32
  let v559 : BitVec 1 := Scalar.cmpi .eq c4_i32_519 c0_i32_520
  let c1_i32_521 : BitVec 32 := 1#32
  let v560 : BitVec 32 := Scalar.select v559 c1_i32_521 c4_i32_519
  let v561 : BitVec 32 := Scalar.remsi v558 v560
  let c0_i32_523 : BitVec 32 := 0#32
  let v563 : BitVec 1 := Scalar.cmpi .slt v561 c0_i32_523
  let c0_i32_524 : BitVec 32 := 0#32
  let v564 : BitVec 1 := Scalar.cmpi .slt v560 c0_i32_524
  let v565 : BitVec 1 := Scalar.xori v563 v564
  let c0_i32_522 : BitVec 32 := 0#32
  let v562 : BitVec 1 := Scalar.cmpi .ne v561 c0_i32_522
  let v566 : BitVec 1 := Scalar.andi v565 v562
  let v567 : BitVec 32 := Scalar.addi v561 v560
  let v568 : BitVec 32 := Scalar.select v566 v567 v561
  let v569 : BitVec 32 := Scalar.addi v557 v568
  let c1_i32_533 : BitVec 32 := 1#32
  let v570 : BitVec 32 := Scalar.muli v569 c1_i32_533
  let v571 : BitVec 32 := Scalar.addi c0_i32_534 v570
  v571.toNat
def k0_dev26 (d0 : Dev nD) : Nat :=
  let c0_i32_556 : BitVec 32 := 0#32
  let c4_i32_539 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v580 : BitVec 32 := Scalar.muli c4_i32_539 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_540 : BitVec 32 := 2#32
  let v581 : BitVec 32 := Scalar.addi v29 c2_i32_540
  let c4_i32_541 : BitVec 32 := 4#32
  let c0_i32_542 : BitVec 32 := 0#32
  let v582 : BitVec 1 := Scalar.cmpi .eq c4_i32_541 c0_i32_542
  let c1_i32_543 : BitVec 32 := 1#32
  let v583 : BitVec 32 := Scalar.select v582 c1_i32_543 c4_i32_541
  let v584 : BitVec 32 := Scalar.remsi v581 v583
  let c0_i32_545 : BitVec 32 := 0#32
  let v586 : BitVec 1 := Scalar.cmpi .slt v584 c0_i32_545
  let c0_i32_546 : BitVec 32 := 0#32
  let v587 : BitVec 1 := Scalar.cmpi .slt v583 c0_i32_546
  let v588 : BitVec 1 := Scalar.xori v586 v587
  let c0_i32_544 : BitVec 32 := 0#32
  let v585 : BitVec 1 := Scalar.cmpi .ne v584 c0_i32_544
  let v589 : BitVec 1 := Scalar.andi v588 v585
  let v590 : BitVec 32 := Scalar.addi v584 v583
  let v591 : BitVec 32 := Scalar.select v589 v590 v584
  let v592 : BitVec 32 := Scalar.addi v580 v591
  let c1_i32_555 : BitVec 32 := 1#32
  let v593 : BitVec 32 := Scalar.muli v592 c1_i32_555
  let v594 : BitVec 32 := Scalar.addi c0_i32_556 v593
  v594.toNat
def k0_dev27 (d0 : Dev nD) : Nat :=
  let c0_i32_578 : BitVec 32 := 0#32
  let c4_i32_561 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v603 : BitVec 32 := Scalar.muli c4_i32_561 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_562 : BitVec 32 := 3#32
  let v604 : BitVec 32 := Scalar.addi v29 c3_i32_562
  let c4_i32_563 : BitVec 32 := 4#32
  let c0_i32_564 : BitVec 32 := 0#32
  let v605 : BitVec 1 := Scalar.cmpi .eq c4_i32_563 c0_i32_564
  let c1_i32_565 : BitVec 32 := 1#32
  let v606 : BitVec 32 := Scalar.select v605 c1_i32_565 c4_i32_563
  let v607 : BitVec 32 := Scalar.remsi v604 v606
  let c0_i32_567 : BitVec 32 := 0#32
  let v609 : BitVec 1 := Scalar.cmpi .slt v607 c0_i32_567
  let c0_i32_568 : BitVec 32 := 0#32
  let v610 : BitVec 1 := Scalar.cmpi .slt v606 c0_i32_568
  let v611 : BitVec 1 := Scalar.xori v609 v610
  let c0_i32_566 : BitVec 32 := 0#32
  let v608 : BitVec 1 := Scalar.cmpi .ne v607 c0_i32_566
  let v612 : BitVec 1 := Scalar.andi v611 v608
  let v613 : BitVec 32 := Scalar.addi v607 v606
  let v614 : BitVec 32 := Scalar.select v612 v613 v607
  let v615 : BitVec 32 := Scalar.addi v603 v614
  let c1_i32_577 : BitVec 32 := 1#32
  let v616 : BitVec 32 := Scalar.muli v615 c1_i32_577
  let v617 : BitVec 32 := Scalar.addi c0_i32_578 v616
  v617.toNat
def k0_dev28 (d0 : Dev nD) : Nat :=
  let c0_i32_657 : BitVec 32 := 0#32
  let c4_i32_647 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_640 : BitVec 32 := 1#32
  let v669 : BitVec 32 := Scalar.addi v19 c1_i32_640
  let c4_i32_641 : BitVec 32 := 4#32
  let c0_i32_642 : BitVec 32 := 0#32
  let v670 : BitVec 1 := Scalar.cmpi .eq c4_i32_641 c0_i32_642
  let c1_i32_643 : BitVec 32 := 1#32
  let v671 : BitVec 32 := Scalar.select v670 c1_i32_643 c4_i32_641
  let v672 : BitVec 32 := Scalar.remsi v669 v671
  let c0_i32_645 : BitVec 32 := 0#32
  let v674 : BitVec 1 := Scalar.cmpi .slt v672 c0_i32_645
  let c0_i32_646 : BitVec 32 := 0#32
  let v675 : BitVec 1 := Scalar.cmpi .slt v671 c0_i32_646
  let v676 : BitVec 1 := Scalar.xori v674 v675
  let c0_i32_644 : BitVec 32 := 0#32
  let v673 : BitVec 1 := Scalar.cmpi .ne v672 c0_i32_644
  let v677 : BitVec 1 := Scalar.andi v676 v673
  let v678 : BitVec 32 := Scalar.addi v672 v671
  let v679 : BitVec 32 := Scalar.select v677 v678 v672
  let v680 : BitVec 32 := Scalar.muli c4_i32_647 v679
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v681 : BitVec 32 := Scalar.addi v680 v29
  let c1_i32_656 : BitVec 32 := 1#32
  let v682 : BitVec 32 := Scalar.muli v681 c1_i32_656
  let v683 : BitVec 32 := Scalar.addi c0_i32_657 v682
  v683.toNat
def k0_dev29 (d0 : Dev nD) : Nat :=
  let c0_i32_679 : BitVec 32 := 0#32
  let c4_i32_669 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_662 : BitVec 32 := 2#32
  let v692 : BitVec 32 := Scalar.addi v19 c2_i32_662
  let c4_i32_663 : BitVec 32 := 4#32
  let c0_i32_664 : BitVec 32 := 0#32
  let v693 : BitVec 1 := Scalar.cmpi .eq c4_i32_663 c0_i32_664
  let c1_i32_665 : BitVec 32 := 1#32
  let v694 : BitVec 32 := Scalar.select v693 c1_i32_665 c4_i32_663
  let v695 : BitVec 32 := Scalar.remsi v692 v694
  let c0_i32_667 : BitVec 32 := 0#32
  let v697 : BitVec 1 := Scalar.cmpi .slt v695 c0_i32_667
  let c0_i32_668 : BitVec 32 := 0#32
  let v698 : BitVec 1 := Scalar.cmpi .slt v694 c0_i32_668
  let v699 : BitVec 1 := Scalar.xori v697 v698
  let c0_i32_666 : BitVec 32 := 0#32
  let v696 : BitVec 1 := Scalar.cmpi .ne v695 c0_i32_666
  let v700 : BitVec 1 := Scalar.andi v699 v696
  let v701 : BitVec 32 := Scalar.addi v695 v694
  let v702 : BitVec 32 := Scalar.select v700 v701 v695
  let v703 : BitVec 32 := Scalar.muli c4_i32_669 v702
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v704 : BitVec 32 := Scalar.addi v703 v29
  let c1_i32_678 : BitVec 32 := 1#32
  let v705 : BitVec 32 := Scalar.muli v704 c1_i32_678
  let v706 : BitVec 32 := Scalar.addi c0_i32_679 v705
  v706.toNat
def k0_dev30 (d0 : Dev nD) : Nat :=
  let c0_i32_701 : BitVec 32 := 0#32
  let c4_i32_691 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_684 : BitVec 32 := 3#32
  let v715 : BitVec 32 := Scalar.addi v19 c3_i32_684
  let c4_i32_685 : BitVec 32 := 4#32
  let c0_i32_686 : BitVec 32 := 0#32
  let v716 : BitVec 1 := Scalar.cmpi .eq c4_i32_685 c0_i32_686
  let c1_i32_687 : BitVec 32 := 1#32
  let v717 : BitVec 32 := Scalar.select v716 c1_i32_687 c4_i32_685
  let v718 : BitVec 32 := Scalar.remsi v715 v717
  let c0_i32_689 : BitVec 32 := 0#32
  let v720 : BitVec 1 := Scalar.cmpi .slt v718 c0_i32_689
  let c0_i32_690 : BitVec 32 := 0#32
  let v721 : BitVec 1 := Scalar.cmpi .slt v717 c0_i32_690
  let v722 : BitVec 1 := Scalar.xori v720 v721
  let c0_i32_688 : BitVec 32 := 0#32
  let v719 : BitVec 1 := Scalar.cmpi .ne v718 c0_i32_688
  let v723 : BitVec 1 := Scalar.andi v722 v719
  let v724 : BitVec 32 := Scalar.addi v718 v717
  let v725 : BitVec 32 := Scalar.select v723 v724 v718
  let v726 : BitVec 32 := Scalar.muli c4_i32_691 v725
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v727 : BitVec 32 := Scalar.addi v726 v29
  let c1_i32_700 : BitVec 32 := 1#32
  let v728 : BitVec 32 := Scalar.muli v727 c1_i32_700
  let v729 : BitVec 32 := Scalar.addi c0_i32_701 v728
  v729.toNat
def k0_dev31 (d0 : Dev nD) : Nat :=
  let c0_i32_774 : BitVec 32 := 0#32
  let c4_i32_757 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v771 : BitVec 32 := Scalar.muli c4_i32_757 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_758 : BitVec 32 := 1#32
  let v772 : BitVec 32 := Scalar.addi v29 c1_i32_758
  let c4_i32_759 : BitVec 32 := 4#32
  let c0_i32_760 : BitVec 32 := 0#32
  let v773 : BitVec 1 := Scalar.cmpi .eq c4_i32_759 c0_i32_760
  let c1_i32_761 : BitVec 32 := 1#32
  let v774 : BitVec 32 := Scalar.select v773 c1_i32_761 c4_i32_759
  let v775 : BitVec 32 := Scalar.remsi v772 v774
  let c0_i32_763 : BitVec 32 := 0#32
  let v777 : BitVec 1 := Scalar.cmpi .slt v775 c0_i32_763
  let c0_i32_764 : BitVec 32 := 0#32
  let v778 : BitVec 1 := Scalar.cmpi .slt v774 c0_i32_764
  let v779 : BitVec 1 := Scalar.xori v777 v778
  let c0_i32_762 : BitVec 32 := 0#32
  let v776 : BitVec 1 := Scalar.cmpi .ne v775 c0_i32_762
  let v780 : BitVec 1 := Scalar.andi v779 v776
  let v781 : BitVec 32 := Scalar.addi v775 v774
  let v782 : BitVec 32 := Scalar.select v780 v781 v775
  let v783 : BitVec 32 := Scalar.addi v771 v782
  let c1_i32_773 : BitVec 32 := 1#32
  let v784 : BitVec 32 := Scalar.muli v783 c1_i32_773
  let v785 : BitVec 32 := Scalar.addi c0_i32_774 v784
  v785.toNat
def k0_dev32 (d0 : Dev nD) : Nat :=
  let c0_i32_796 : BitVec 32 := 0#32
  let c4_i32_779 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v794 : BitVec 32 := Scalar.muli c4_i32_779 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_780 : BitVec 32 := 2#32
  let v795 : BitVec 32 := Scalar.addi v29 c2_i32_780
  let c4_i32_781 : BitVec 32 := 4#32
  let c0_i32_782 : BitVec 32 := 0#32
  let v796 : BitVec 1 := Scalar.cmpi .eq c4_i32_781 c0_i32_782
  let c1_i32_783 : BitVec 32 := 1#32
  let v797 : BitVec 32 := Scalar.select v796 c1_i32_783 c4_i32_781
  let v798 : BitVec 32 := Scalar.remsi v795 v797
  let c0_i32_785 : BitVec 32 := 0#32
  let v800 : BitVec 1 := Scalar.cmpi .slt v798 c0_i32_785
  let c0_i32_786 : BitVec 32 := 0#32
  let v801 : BitVec 1 := Scalar.cmpi .slt v797 c0_i32_786
  let v802 : BitVec 1 := Scalar.xori v800 v801
  let c0_i32_784 : BitVec 32 := 0#32
  let v799 : BitVec 1 := Scalar.cmpi .ne v798 c0_i32_784
  let v803 : BitVec 1 := Scalar.andi v802 v799
  let v804 : BitVec 32 := Scalar.addi v798 v797
  let v805 : BitVec 32 := Scalar.select v803 v804 v798
  let v806 : BitVec 32 := Scalar.addi v794 v805
  let c1_i32_795 : BitVec 32 := 1#32
  let v807 : BitVec 32 := Scalar.muli v806 c1_i32_795
  let v808 : BitVec 32 := Scalar.addi c0_i32_796 v807
  v808.toNat
def k0_dev33 (d0 : Dev nD) : Nat :=
  let c0_i32_818 : BitVec 32 := 0#32
  let c4_i32_801 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v817 : BitVec 32 := Scalar.muli c4_i32_801 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_802 : BitVec 32 := 3#32
  let v818 : BitVec 32 := Scalar.addi v29 c3_i32_802
  let c4_i32_803 : BitVec 32 := 4#32
  let c0_i32_804 : BitVec 32 := 0#32
  let v819 : BitVec 1 := Scalar.cmpi .eq c4_i32_803 c0_i32_804
  let c1_i32_805 : BitVec 32 := 1#32
  let v820 : BitVec 32 := Scalar.select v819 c1_i32_805 c4_i32_803
  let v821 : BitVec 32 := Scalar.remsi v818 v820
  let c0_i32_807 : BitVec 32 := 0#32
  let v823 : BitVec 1 := Scalar.cmpi .slt v821 c0_i32_807
  let c0_i32_808 : BitVec 32 := 0#32
  let v824 : BitVec 1 := Scalar.cmpi .slt v820 c0_i32_808
  let v825 : BitVec 1 := Scalar.xori v823 v824
  let c0_i32_806 : BitVec 32 := 0#32
  let v822 : BitVec 1 := Scalar.cmpi .ne v821 c0_i32_806
  let v826 : BitVec 1 := Scalar.andi v825 v822
  let v827 : BitVec 32 := Scalar.addi v821 v820
  let v828 : BitVec 32 := Scalar.select v826 v827 v821
  let v829 : BitVec 32 := Scalar.addi v817 v828
  let c1_i32_817 : BitVec 32 := 1#32
  let v830 : BitVec 32 := Scalar.muli v829 c1_i32_817
  let v831 : BitVec 32 := Scalar.addi c0_i32_818 v830
  v831.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x4096 : Shape := ⟨2, ![128, 4096]⟩
abbrev S4096x128 : Shape := ⟨2, ![4096, 128]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S128x128, .bf16⟩
  | .hbm, ⟨1, _⟩ => ⟨S128x4096, .bf16⟩
  | .hbm, ⟨2, _⟩ => ⟨S4096x128, .bf16⟩
  | .hbm, ⟨3, _⟩ => ⟨S128x4096, .bf16⟩
  | .hbm, ⟨4, _⟩ => ⟨S4096x128, .bf16⟩
  | .hbm, ⟨5, _⟩ => ⟨S128x4096, .bf16⟩
  | .hbm, ⟨6, _⟩ => ⟨S4096x128, .bf16⟩
  | .hbm, ⟨7, _⟩ => ⟨S128x128, .f32⟩
  | .hbm, ⟨8, _⟩ => ⟨S128x4096, .f32⟩
  | .hbm, ⟨9, _⟩ => ⟨S128x4096, .f32⟩
  | .hbm, ⟨10, _⟩ => ⟨S128x4096, .bf16⟩
  | .hbm, ⟨11, _⟩ => ⟨S128x4096, .f32⟩
  | .hbm, ⟨12, _⟩ => ⟨S_, .f32⟩
  | .hbm, ⟨13, _⟩ => ⟨S128x4096, .f32⟩
  | .hbm, ⟨14, _⟩ => ⟨S128x4096, .f32⟩
  | .hbm, ⟨15, _⟩ => ⟨S128x4096, .bf16⟩
  | .hbm, ⟨16, _⟩ => ⟨S128x4096, .f32⟩
  | .hbm, ⟨17, _⟩ => ⟨S4096x128, .f32⟩
  | .hbm, ⟨18, _⟩ => ⟨S128x128, .f32⟩
  | .hbm, ⟨19, _⟩ => ⟨S128x128, .bf16⟩
  | .hbm, ⟨20, _⟩ => ⟨S128x128, .f32⟩
  | .hbm, ⟨21, _⟩ => ⟨S128x4096, .f32⟩
  | .hbm, ⟨22, _⟩ => ⟨S128x4096, .f32⟩
  | .hbm, ⟨23, _⟩ => ⟨S128x4096, .bf16⟩
  | .hbm, ⟨24, _⟩ => ⟨S128x4096, .f32⟩
  | .hbm, ⟨25, _⟩ => ⟨S_, .f32⟩
  | .hbm, ⟨26, _⟩ => ⟨S128x4096, .f32⟩
  | .hbm, ⟨27, _⟩ => ⟨S128x4096, .f32⟩
  | .hbm, ⟨28, _⟩ => ⟨S128x4096, .bf16⟩
  | .hbm, ⟨29, _⟩ => ⟨S128x4096, .f32⟩
  | .hbm, ⟨30, _⟩ => ⟨S4096x128, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x4096, .f32⟩
  | .hbm, ⟨35, _⟩ => ⟨S128x4096, .f32⟩
  | .hbm, ⟨36, _⟩ => ⟨S128x4096, .bf16⟩
  | .hbm, ⟨37, _⟩ => ⟨S128x4096, .f32⟩
  | .hbm, ⟨38, _⟩ => ⟨S_, .f32⟩
  | .hbm, ⟨39, _⟩ => ⟨S128x4096, .f32⟩
  | .hbm, ⟨40, _⟩ => ⟨S128x4096, .f32⟩
  | .hbm, ⟨41, _⟩ => ⟨S128x4096, .bf16⟩
  | .hbm, ⟨42, _⟩ => ⟨S128x4096, .f32⟩
  | .hbm, ⟨43, _⟩ => ⟨S4096x128, .f32⟩
  | .hbm, ⟨44, _⟩ => ⟨S128x128, .f32⟩
  | .hbm, ⟨45, _⟩ => ⟨S128x128, .bf16⟩
  | .hbm, ⟨46, _⟩ => ⟨S128x128, .f32⟩
  | _, _ => ⟨S128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Swap.Same.lean ====
/-
# The two printed programs are one

The kernel is printed twice, once to run on machine floats and once over the extended reals; nothing was rewritten in
between. Over any one kind of floats the two body tables are therefore the same.
-/
module

public import proofs.«01_k».proof.Proof.Gen.Kernel
public import proofs.«01_k».proof.Proof.Gen.KernelIdeal

@[expose] public section

set_option maxRecDepth 65536

noncomputable section

namespace Cert.Swap

open Idealize.ShloMosaic Idealize.SL.Sem

variable {F : FTy → Type} [FloatOps F]

/-- The kernels' bodies: there is one, on the TensorCore. -/
theorem bodies_same : Cert.Kernel.defs₀ (F := F) = Cert.KernelIdeal.defs₀ (F := F) := by
  funext p l
  cases p
  · match l with
    | ⟨0, _⟩ => rfl
  · rfl
  · rfl

/-- The bodies and the region around them. -/
theorem tables_same : Cert.Kernel.defs (F := F) = Cert.KernelIdeal.defs (F := F) :=
  congrArg (Pipeline.defs (Cert.KernelIdeal.pcfgs (F := F))) bodies_same

end Cert.Swap

end
-- ==== Proof.Swap.Mesh.lean ====
/-
# The mesh of sixteen devices, and the semaphores of the exchanges

Device `c` sits at row `c / 4`, column `c % 4` of a 4 × 4 arrangement. A layer's partial products are exchanged first
among the four devices of one column (`k = false`), then among the four of one row (`k = true`). In either exchange a
device copies its block to the three others, at the cyclic distances 1, 2 and 3; a copy over distance `o` lands in slot
`o` of the receiver's buffer for the layer. Before all that every device signals the fifteen others.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring.Trips
public import Idealize.ShloMosaic.Lib.ValueLayout
public import Idealize.ShloMosaic.Lib.Tactic

@[expose] public section

set_option maxRecDepth 16384
set_option backward.proofsInPublic true

noncomputable section

namespace Cert.Swap

open Cert.KernelIdeal Cert.KernelIdeal.Gen
open Idealize.ShloMosaic Idealize.ShloMosaic.TcCoe

/-! ## Who is whose partner -/

/-- The device `c`'s `i`-th signal goes to: `i + 1` places on. -/
def fwd (c : Dev nD) (i : Fin 15) : Dev nD := ⟨(c.val + i.val + 1) % 16, Nat.mod_lt _ (by decide)⟩
/-- The device whose `i`-th signal comes to `c`. -/
def bwd (c : Dev nD) (i : Fin 15) : Dev nD := ⟨(c.val + 15 - i.val) % 16, Nat.mod_lt _ (by decide)⟩

theorem bwd_fwd (c : Dev nD) (i : Fin 15) : bwd (fwd c i) i = c := by revert c i; decide
theorem fwd_bwd (c : Dev nD) (i : Fin 15) : fwd (bwd c i) i = c := by revert c i; decide

/-- Whom `c` copies to over distance `o`: along its row (`k = true`) or along its column. -/
def tgt (k : Bool) (c : Dev nD) (o : Fin 4) : Dev nD :=
  ⟨if k then 4 * (c.val / 4) + (c.val % 4 + o.val) % 4 else 4 * ((c.val / 4 + o.val) % 4) + c.val % 4, by
    have : c.val < 16 := c.isLt
    split <;> show _ < 16 <;> omega⟩
/-- Whose copy over distance `o` comes to `c`. -/
def org (k : Bool) (c : Dev nD) (o : Fin 4) : Dev nD :=
  ⟨if k then 4 * (c.val / 4) + (c.val % 4 + (4 - o.val)) % 4 else 4 * ((c.val / 4 + (4 - o.val)) % 4) + c.val % 4, by
    have : c.val < 16 := c.isLt
    split <;> show _ < 16 <;> omega⟩

theorem org_tgt (k : Bool) (c : Dev nD) (o : Fin 4) : org k (tgt k c o) o = c := by revert k c o; decide
theorem tgt_org (k : Bool) (c : Dev nD) (o : Fin 4) : tgt k (org k c o) o = c := by revert k c o; decide
theorem org_zero (k : Bool) (c : Dev nD) : org k c 0 = c := by revert k c; decide

/-- A copy: which exchange, which layer, and its distance less one. -/
abbrev Copy : Type := Bool × Fin 3 × Fin 3

/-- The slots of `c` that device `fwd c i` fills: what `c`'s `i`-th signal offers. -/
def offer (c : Dev nD) (i : Fin 15) : Finset Copy := Finset.univ.filter fun x => tgt x.1 (fwd c i) x.2.2.succ = c
/-- The number of the signal with which `c` offers the slot that copy `x` to it fills. -/
def offerNo (c : Dev nD) (x : Copy) : Fin 15 :=
  ⟨((org x.1 c x.2.2.succ).val + 15 - c.val) % 16, by
    have h : ∀ (k : Bool) (c : Dev nD) (j : Fin 3), ((org k c j.succ).val + 15 - c.val) % 16 < 15 := by decide +kernel
    exact h x.1 c x.2.2⟩
theorem mem_offer (c : Dev nD) (i : Fin 15) (x : Copy) : x ∈ offer c i ↔ i = offerNo c x := by
  unfold offer
  rw [Finset.mem_filter]
  obtain ⟨k, l, j⟩ := x
  have h : ∀ (k : Bool) (c : Dev nD) (i : Fin 15) (j : Fin 3), tgt k (fwd c i) j.succ = c ↔ i.val = ((org k c j.succ).val + 15 - c.val) % 16 := by decide +kernel
  refine ⟨fun hx => Fin.ext ((h k c i j).1 hx.2), fun hx => ⟨Finset.mem_univ _, (h k c i j).2 (congrArg Fin.val hx)⟩⟩

/-- The number of the signal that offers `c` the slot its own copy `x` fills. -/
def takeNo (c : Dev nD) (x : Copy) : Fin 15 := offerNo (tgt x.1 c x.2.2.succ) x
theorem bwd_takeNo (c : Dev nD) (x : Copy) : bwd c (takeNo c x) = tgt x.1 c x.2.2.succ := by
  obtain ⟨k, l, j⟩ := x
  have h : ∀ (k : Bool) (c : Dev nD) (j : Fin 3), bwd c (takeNo c (k, 0, j)) = tgt k c j.succ := by decide +kernel
  exact h k c j
theorem mem_take (c : Dev nD) (i : Fin 15) (x : Copy) : x ∈ offer (bwd c i) i ↔ i = takeNo c x := by
  rw [mem_offer]
  obtain ⟨k, l, j⟩ := x
  have h : ∀ (k : Bool) (c : Dev nD) (i : Fin 15) (j : Fin 3), i = offerNo (bwd c i) (k, 0, j) ↔ i = takeNo c (k, 0, j) := by decide +kernel
  exact h k c i j

/-! ## The devices the program names -/

theorem dev1 (c : Dev nD) : (⟨k0_dev1 c, k0_dev1_lt c⟩ : Dev nD) = fwd c 0 := by revert c; decide +kernel
theorem dev2 (c : Dev nD) : (⟨k0_dev2 c, k0_dev2_lt c⟩ : Dev nD) = fwd c 1 := by revert c; decide +kernel
theorem dev3 (c : Dev nD) : (⟨k0_dev3 c, k0_dev3_lt c⟩ : Dev nD) = fwd c 2 := by revert c; decide +kernel
theorem dev4 (c : Dev nD) : (⟨k0_dev4 c, k0_dev4_lt c⟩ : Dev nD) = fwd c 3 := by revert c; decide +kernel
theorem dev5 (c : Dev nD) : (⟨k0_dev5 c, k0_dev5_lt c⟩ : Dev nD) = fwd c 4 := by revert c; decide +kernel
theorem dev6 (c : Dev nD) : (⟨k0_dev6 c, k0_dev6_lt c⟩ : Dev nD) = fwd c 5 := by revert c; decide +kernel
theorem dev7 (c : Dev nD) : (⟨k0_dev7 c, k0_dev7_lt c⟩ : Dev nD) = fwd c 6 := by revert c; decide +kernel
theorem dev8 (c : Dev nD) : (⟨k0_dev8 c, k0_dev8_lt c⟩ : Dev nD) = fwd c 7 := by revert c; decide +kernel
theorem dev9 (c : Dev nD) : (⟨k0_dev9 c, k0_dev9_lt c⟩ : Dev nD) = fwd c 8 := by revert c; decide +kernel
theorem dev10 (c : Dev nD) : (⟨k0_dev10 c, k0_dev10_lt c⟩ : Dev nD) = fwd c 9 := by revert c; decide +kernel
theorem dev11 (c : Dev nD) : (⟨k0_dev11 c, k0_dev11_lt c⟩ : Dev nD) = fwd c 10 := by revert c; decide +kernel
theorem dev12 (c : Dev nD) : (⟨k0_dev12 c, k0_dev12_lt c⟩ : Dev nD) = fwd c 11 := by revert c; decide +kernel
theorem dev13 (c : Dev nD) : (⟨k0_dev13 c, k0_dev13_lt c⟩ : Dev nD) = fwd c 12 := by revert c; decide +kernel
theorem dev14 (c : Dev nD) : (⟨k0_dev14 c, k0_dev14_lt c⟩ : Dev nD) = fwd c 13 := by revert c; decide +kernel
theorem dev15 (c : Dev nD) : (⟨k0_dev15 c, k0_dev15_lt c⟩ : Dev nD) = fwd c 14 := by revert c; decide +kernel
theorem dev16 (c : Dev nD) : (⟨k0_dev16 c, k0_dev16_lt c⟩ : Dev nD) = tgt false c (Fin.succ 0) := by revert c; decide +kernel
theorem dev17 (c : Dev nD) : (⟨k0_dev17 c, k0_dev17_lt c⟩ : Dev nD) = tgt false c (Fin.succ 1) := by revert c; decide +kernel
theorem dev18 (c : Dev nD) : (⟨k0_dev18 c, k0_dev18_lt c⟩ : Dev nD) = tgt false c (Fin.succ 2) := by revert c; decide +kernel
theorem dev19 (c : Dev nD) : (⟨k0_dev19 c, k0_dev19_lt c⟩ : Dev nD) = tgt true c (Fin.succ 0) := by revert c; decide +kernel
theorem dev20 (c : Dev nD) : (⟨k0_dev20 c, k0_dev20_lt c⟩ : Dev nD) = tgt true c (Fin.succ 1) := by revert c; decide +kernel
theorem dev21 (c : Dev nD) : (⟨k0_dev21 c, k0_dev21_lt c⟩ : Dev nD) = tgt true c (Fin.succ 2) := by revert c; decide +kernel
theorem dev22 (c : Dev nD) : (⟨k0_dev22 c, k0_dev22_lt c⟩ : Dev nD) = tgt false c (Fin.succ 0) := by revert c; decide +kernel
theorem dev23 (c : Dev nD) : (⟨k0_dev23 c, k0_dev23_lt c⟩ : Dev nD) = tgt false c (Fin.succ 1) := by revert c; decide +kernel
theorem dev24 (c : Dev nD) : (⟨k0_dev24 c, k0_dev24_lt c⟩ : Dev nD) = tgt false c (Fin.succ 2) := by revert c; decide +kernel
theorem dev25 (c : Dev nD) : (⟨k0_dev25 c, k0_dev25_lt c⟩ : Dev nD) = tgt true c (Fin.succ 0) := by revert c; decide +kernel
theorem dev26 (c : Dev nD) : (⟨k0_dev26 c, k0_dev26_lt c⟩ : Dev nD) = tgt true c (Fin.succ 1) := by revert c; decide +kernel
theorem dev27 (c : Dev nD) : (⟨k0_dev27 c, k0_dev27_lt c⟩ : Dev nD) = tgt true c (Fin.succ 2) := by revert c; decide +kernel
theorem dev28 (c : Dev nD) : (⟨k0_dev28 c, k0_dev28_lt c⟩ : Dev nD) = tgt false c (Fin.succ 0) := by revert c; decide +kernel
theorem dev29 (c : Dev nD) : (⟨k0_dev29 c, k0_dev29_lt c⟩ : Dev nD) = tgt false c (Fin.succ 1) := by revert c; decide +kernel
theorem dev30 (c : Dev nD) : (⟨k0_dev30 c, k0_dev30_lt c⟩ : Dev nD) = tgt false c (Fin.succ 2) := by revert c; decide +kernel
theorem dev31 (c : Dev nD) : (⟨k0_dev31 c, k0_dev31_lt c⟩ : Dev nD) = tgt true c (Fin.succ 0) := by revert c; decide +kernel
theorem dev32 (c : Dev nD) : (⟨k0_dev32 c, k0_dev32_lt c⟩ : Dev nD) = tgt true c (Fin.succ 1) := by revert c; decide +kernel
theorem dev33 (c : Dev nD) : (⟨k0_dev33 c, k0_dev33_lt c⟩ : Dev nD) = tgt true c (Fin.succ 2) := by revert c; decide +kernel

/-! ## The semaphores -/

/-- One semaphore of a 3 × 4 array, as the program names it. -/
abbrev semAt (A : DmaSems sig S3x4) (l o : ℕ) (h : ∀ a, (![l, o] : Fin 2 → ℕ) a + S1x1.size a ≤ S3x4.size a) : DmaSem sig :=
  ((A.slice (Rect.unit (s := S3x4) ![l, o] S1x1.size h)).squeeze S_ squeezes_S1x1_S_).sem

theorem inbS (l : Fin 3) (o : Fin 4) : ∀ a, (![l.val, o.val] : Fin 2 → ℕ) a + S1x1.size a ≤ S3x4.size a := by revert l o; decide

/-- The arrays: `d = false` counts a copy's departure, `d = true` its arrival. -/
abbrev semA : Bool → Bool → DmaSems sig S3x4
  | false, false => cc0_scratch2 | true, false => cc0_scratch3 | false, true => cc0_scratch4 | true, true => cc0_scratch5

/-- The semaphore of exchange `k`, layer `l`, distance `o`. Those of distance `0` are never used. -/
abbrev semOf (d k : Bool) (l : Fin 3) (o : Fin 4) : DmaSem sig := semAt (semA d k) l.val o.val (inbS l o)

/-- The semaphore copy `(k, l, j)` leaves by, and the one it arrives on. -/
abbrev sendS (k : Bool) (l j : Fin 3) : DmaSem sig := semOf false k l j.succ
abbrev recvS (k : Bool) (l j : Fin 3) : DmaSem sig := semOf true k l j.succ
/-- The runtime's barrier semaphore. -/
abbrev barS : Sem sig := (SemArray.scalar (sig.barrier 0 rfl) : Sems sig S_).sem

/-- Where the semaphores lie: forty-eight in a row after the eight of the staging. -/
theorem semOf_val (d k : Bool) (l : Fin 3) (o : Fin 4) : (semOf d k l o).val = 8 + (24 * k.toNat + 12 * d.toNat + 4 * l.val + o.val) := by
  revert d k l o; decide

abbrev barCell (c : Dev nD) : GSem nD τ sig := ((c : Thread nD τ), .reg barS)
abbrev dmaCell (d k : Bool) (l : Fin 3) (o : Fin 4) (c : Dev nD) : GSem nD τ sig := ((c : Thread nD τ), .dma (semOf d k l o))
abbrev sendCell (k : Bool) (l j : Fin 3) (c : Dev nD) : GSem nD τ sig := dmaCell false k l j.succ c
abbrev recvCell (k : Bool) (l j : Fin 3) (c : Dev nD) : GSem nD τ sig := dmaCell true k l j.succ c

/-- A device's semaphores: the barrier's, and one for each direction, exchange, layer and distance. -/
abbrev Own : Type := Bool × Bool × Fin 3 × Fin 4
abbrev csem : Option Own → SemLoc sig
  | none => .reg barS
  | some x => .dma (semOf x.1 x.2.1 x.2.2.1 x.2.2.2)
abbrev kcell (x : Dev nD × Option Own) : GSem nD τ sig := ((x.1 : Thread nD τ), csem x.2)

theorem semOf_injective : Function.Injective fun x : Own => semOf x.1 x.2.1 x.2.2.1 x.2.2.2 := by
  rintro ⟨d, k, l, o⟩ ⟨d', k', l', o'⟩ h
  have h' := congrArg Fin.val h
  simp only [semOf_val] at h'
  have hk : k.toNat ≤ 1 := Bool.toNat_le k
  have hk' : k'.toNat ≤ 1 := Bool.toNat_le k'
  have hd : d.toNat ≤ 1 := Bool.toNat_le d
  have hd' : d'.toNat ≤ 1 := Bool.toNat_le d'
  have e1 : k.toNat = k'.toNat := by omega
  have e2 : d.toNat = d'.toNat := by omega
  have e3 : l = l' := Fin.ext (by omega)
  have e4 : o = o' := Fin.ext (by omega)
  have hb : ∀ a b : Bool, a.toNat = b.toNat → a = b := by decide
  rw [hb _ _ e1, hb _ _ e2, e3, e4]

theorem csem_injective : Function.Injective csem := by
  rintro (_ | x) (_ | y) h
  · rfl
  · cases h
  · cases h
  · exact congrArg some (semOf_injective (SemLoc.dma.inj h))

theorem kcell_injective : Function.Injective kcell := by
  rintro ⟨c, x⟩ ⟨c', x'⟩ h
  have hc : c = c' := congrArg (fun g : GSem nD τ sig => g.1.1) h
  have hx : x = x' := csem_injective (congrArg Prod.snd h)
  rw [hc, hx]

end Cert.Swap

end
-- ==== Proof.Swap.Contents.lean ====
/-
# What the buffers hold

The blocks that are exchanged, layer by layer, as functions of the devices' inputs: a layer's partial product on a
device, the sum of the four partial products of its column, and the sum of the four column sums of its row. The contents
of a whole exchange buffer follow: slot `o` of a layer holds what the device at distance `o` behind put into its slot `0`.
-/
module

public import proofs.«01_k».proof.Proof.Swap.Mesh
public import Idealize.ShloMosaic.Lib.Pipeline.Value

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.Sem
open Idealize.ShloMosaic.ValueIdx

variable {F : FTy → Type} [FloatOps F]
variable (m : (ℓ : Loc nD τ sig) → Buf (Elt F) ℓ)

/-! ## A device's inputs -/

def xIn (c : Dev nD) : Vec F S128x128 .bf16 := iblk m c 0 t0_0
def wi0 (c : Dev nD) : Vec F S128x256 .bf16 := iblk m c 1 t0_0
def wo0 (c : Dev nD) : Vec F S256x128 .bf16 := iblk m c 2 t0_0
def wi1 (c : Dev nD) : Vec F S128x256 .bf16 := iblk m c 3 t0_0
def wo1 (c : Dev nD) : Vec F S256x128 .bf16 := iblk m c 4 t0_0
def wi2 (c : Dev nD) : Vec F S128x256 .bf16 := iblk m c 5 t0_0
def wo2 (c : Dev nD) : Vec F S256x128 .bf16 := iblk m c 6 t0_0

/-! ## What is exchanged, layer by layer -/

/-- The blocks of `g` that come to `c` over the distances 1, 2 and 3, stacked as they are loaded. -/
def three (k : Bool) (c : Dev nD) (g : Dev nD → Vec F S128x128 .bf16) : Vec F S1x3x128x128 .bf16 :=
  fun i => g (org k c (Fin.succ (i 1))) (ix2 (i 2) (i 3))

def part0 (c : Dev nD) : FVec F S128x128 .f32 := k0_pay2 (k0_pay1 (xIn m c) (wi0 m c)) (wo0 m c)
def zOut0 (c : Dev nD) : Vec F S128x128 .bf16 := (truncf .bf16 (part0 m c) bitsLt_bf16_f32 : FVec F S128x128 .bf16)
def col0 (c : Dev nD) : FVec F S128x128 .f32 := k0_pay4 (part0 m c) (three false c (zOut0 m))
def pOut0 (c : Dev nD) : Vec F S128x128 .bf16 := (truncf .bf16 (col0 m c) bitsLt_bf16_f32 : FVec F S128x128 .bf16)
def part1 (c : Dev nD) : FVec F S128x128 .f32 := k0_pay7 (col0 m c) (three true c (pOut0 m)) (wi1 m c) (wo1 m c)
def zOut1 (c : Dev nD) : Vec F S128x128 .bf16 := (truncf .bf16 (part1 m c) bitsLt_bf16_f32 : FVec F S128x128 .bf16)
def col1 (c : Dev nD) : FVec F S128x128 .f32 := k0_pay10 (part1 m c) (three false c (zOut1 m))
def pOut1 (c : Dev nD) : Vec F S128x128 .bf16 := (truncf .bf16 (col1 m c) bitsLt_bf16_f32 : FVec F S128x128 .bf16)
def part2 (c : Dev nD) : FVec F S128x128 .f32 := k0_pay12 (col1 m c) (three true c (pOut1 m)) (wi2 m c) (wo2 m c)
def zOut2 (c : Dev nD) : Vec F S128x128 .bf16 := (truncf .bf16 (part2 m c) bitsLt_bf16_f32 : FVec F S128x128 .bf16)
def col2 (c : Dev nD) : FVec F S128x128 .f32 := k0_pay14 (part2 m c) (three false c (zOut2 m))
def pOut2 (c : Dev nD) : Vec F S128x128 .bf16 := (truncf .bf16 (col2 m c) bitsLt_bf16_f32 : FVec F S128x128 .bf16)
/-- What a device writes out. -/
def outVal (c : Dev nD) : Vec F S128x128 .f32 := k0_pay16 (col2 m c) (three true c (pOut2 m))

/-- The block device `c` puts out in exchange `k` of layer `l`. -/
def val : Bool → Fin 3 → Dev nD → Vec F S128x128 .bf16
  | false, 0 => zOut0 m | false, 1 => zOut1 m | false, 2 => zOut2 m
  | true, 0 => pOut0 m | true, 1 => pOut1 m | true, 2 => pOut2 m

/-! ## The exchange buffers -/

/-- The buffer of exchange `k`. -/
abbrev commM : Bool → Memref sig .tc .vmem S3x4x128x128 .bf16
  | false => Memref.whole cc0_scratch0
  | true => Memref.whole cc0_scratch1

theorem inbM (l : Fin 3) (o : Fin 4) :
    ∀ a, (![l.val, o.val, 0, 0] : Fin 4 → ℕ) a + S1x1x128x128.size a ≤ S3x4x128x128.size a := by revert l o; decide
theorem inbT (l : Fin 3) : ∀ a, (![l.val, 1, 0, 0] : Fin 4 → ℕ) a + S1x3x128x128.size a ≤ S3x4x128x128.size a := by
  revert l; decide

/-- Slot `o` of layer `l` as a rectangle of the buffer, and the three slots that are filled by others. -/
abbrev slotR (l : Fin 3) (o : Fin 4) : Rect S3x4x128x128 := Rect.unit ![l.val, o.val, 0, 0] S1x1x128x128.size (inbM l o)
abbrev threeR (l : Fin 3) : Rect S3x4x128x128 := Rect.unit ![l.val, 1, 0, 0] S1x3x128x128.size (inbT l)

/-- Slot `o` of layer `l` as a block of 128 × 128. -/
abbrev slotM (k : Bool) (l : Fin 3) (o : Fin 4) : Memref sig .tc .vmem S128x128 .bf16 :=
  ((commM k).slice (slotR l o) (fun _ => rfl)).squeeze S128x128 squeezes_S1x1x128x128_S128x128

/-- What the buffer of exchange `k` holds in the end, element by element. -/
def fill (k : Bool) (c : Dev nD) (i : S3x4x128x128.Idx) : Elt F .bf16 :=
  val m k (i 0) (org k c (i 1)) (ix2 (i 2) (i 3))

/-- The same as contents of the buffer. -/
def held : (k : Bool) → (c : Dev nD) → (commM k).view.ty.Contents (Elt F)
  | false, c => fun i => fill m false c i
  | true, c => fun i => fill m true c i

/-- Where element `y` of a slot lies in the buffer. -/
theorem slotR_emb (l : Fin 3) (o : Fin 4) (y : S128x128.Idx) (h : S128x128.numel = S1x1x128x128.numel) :
    (slotR l o).emb (Shape.reshapeEquiv h y) = (ix4 l o (y 0) (y 1) : S3x4x128x128.Idx) := by
  have hy : Shape.reshapeEquiv h y = ix4 (⟨0, Nat.one_pos⟩ : Fin 1) (⟨0, Nat.one_pos⟩ : Fin 1) (y 0) (y 1) :=
    (congrArg (Shape.reshapeEquiv h) (eq_ix2 y)).trans (reshapeEquiv_ix2_11ab h (y 0) (y 1))
  rw [hy]
  funext a
  refine Fin.ext ?_
  fin_cases a
  · show l.val + 1 * 0 = l.val; omega
  · show o.val + 1 * 0 = o.val; omega
  · show 0 + 1 * (y 0).val = (y 0).val; omega
  · show 0 + 1 * (y 1).val = (y 1).val; omega

/-- A slot reads as the block its origin put out. -/
theorem slot_read (k : Bool) (l : Fin 3) (o : Fin 4) (c : Dev nD) :
    (slotM k l o).view.read (Elt F) (held m k c) = val m k l (org k c o) := by
  funext y
  cases k
  · show fill m false c ((slotR l o).emb (Shape.reshapeEquiv _ y)) = _
    rw [slotR_emb]
    exact congrArg _ (eq_ix2 y).symm
  · show fill m true c ((slotR l o).emb (Shape.reshapeEquiv _ y)) = _
    rw [slotR_emb]
    exact congrArg _ (eq_ix2 y).symm

/-- Contents that read alike through a view agree on its elements: what is written whole is what reads so. -/
theorem write_agrees {sp : Space} {s : Shape} {e : EltTy} (v : View sig .tc sp s e) (f g : v.ty.Contents (Elt F))
    (w : s.Idx → Elt F e) (h : v.read (Elt F) g = w) :
    ∀ i ∈ v.set, v.write (Elt F) f w Finset.univ i = g i := by
  intro i hi
  obtain ⟨y, -, rfl⟩ := Finset.mem_map.1 hi
  rw [View.write_emb_of_mem _ _ (Finset.mem_univ y), ← h, View.read_apply, cast_cast, cast_eq]

/-- Slot `0` as the store addresses it reads as the device's own block, two unit axes in front. -/
theorem store_read (k : Bool) (l : Fin 3) (c : Dev nD) (hc : S128x128.ShapeCasts S1x1x128x128) :
    ((commM k).access (slotR l 0)).read (Elt F) (held m k c) = shapeCast S1x1x128x128 (val m k l c) hc := by
  have h : S128x128.numel = S1x1x128x128.numel := by decide
  funext y
  obtain ⟨z, rfl⟩ := (Shape.reshapeEquiv h).surjective y
  have h2 : shapeCast S1x1x128x128 (val m k l c) hc (Shape.reshapeEquiv h z) = val m k l c z :=
    shapeCast_apply _ hc _ z (Shape.rowMajor_reshapeEquiv h z).symm
  rw [h2]
  cases k
  · show fill m false c ((slotR l 0).emb (Shape.reshapeEquiv h z)) = _
    rw [slotR_emb]
    show val m false l (org false c 0) _ = _
    rw [org_zero]
    exact congrArg _ (eq_ix2 z).symm
  · show fill m true c ((slotR l 0).emb (Shape.reshapeEquiv h z)) = _
    rw [slotR_emb]
    show val m true l (org true c 0) _ = _
    rw [org_zero]
    exact congrArg _ (eq_ix2 z).symm

/-- The three slots filled by others, as they are loaded. -/
theorem three_read (k : Bool) (l : Fin 3) (c : Dev nD) :
    (commM k).view.readAt (Elt F) (threeR l) (held m k c) = three k c (val m k l) := by
  have hemb : ∀ y : S1x3x128x128.Idx, (threeR l).emb y = (ix4 l (Fin.succ (y 1)) (y 2) (y 3) : S3x4x128x128.Idx) := by
    intro y
    funext a
    refine Fin.ext ?_
    fin_cases a
    · show l.val + 1 * (y 0).val = l.val
      have : (y 0).val < 1 := (y 0).isLt
      omega
    · show 1 + 1 * (y 1).val = (y 1).val + 1; omega
    · show 0 + 1 * (y 2).val = (y 2).val; omega
    · show 0 + 1 * (y 3).val = (y 3).val; omega
  funext y
  cases k
  · show fill m false c ((threeR l).emb y) = _
    rw [hemb]; rfl
  · show fill m true c ((threeR l).emb y) = _
    rw [hemb]; rfl

/-! ## Which elements a slot holds -/

/-- The elements of slot `o` of layer `l`. -/
theorem mem_slotR (l : Fin 3) (o : Fin 4) (i : S3x4x128x128.Idx) : i ∈ (slotR l o).set ↔ i 0 = l ∧ i 1 = o := by
  rw [Rect.mem_set_unit]
  constructor
  · intro h
    have h0 := h 0; have h1 := h 1
    exact ⟨Fin.ext (by simp at h0; omega), Fin.ext (by simp at h1; omega)⟩
  · rintro ⟨h0, h1⟩ a
    have e0 : (i 0).val = l.val := congrArg Fin.val h0
    have e1 : (i 1).val = o.val := congrArg Fin.val h1
    fin_cases a
    · exact ⟨e0.ge, by show (i 0).val < l.val + 1; omega⟩
    · exact ⟨e1.ge, by show (i 1).val < o.val + 1; omega⟩
    · exact ⟨Nat.zero_le _, by show (i 2).val < 0 + 128; have : (i 2).val < 128 := (i 2).isLt; omega⟩
    · exact ⟨Nat.zero_le _, by show (i 3).val < 0 + 128; have : (i 3).val < 128 := (i 3).isLt; omega⟩

end Cert.Swap

end
-- ==== Proof.Value.Layer.lean ====
/-
# One layer of the network

A layer takes a 128 × 128 array `x` to `max(x · w, 0) · v`, where `w` widens the rows to the hidden axis and `v` narrows
them again. Everything here is about extended reals, whose addition is associative and commutative without exception, so
a sum may be cut into blocks and taken in any order.

* `layer_cut`: the hidden axis of 4096 may be cut into sixteen parts of 256; the layer is the sum of the sixteen layers
  over the parts of `w` and `v`.
* `mesh_sum`: on the four by four mesh, adding up every column and then adding up a row of column sums adds up all
  devices, whichever device does it.
-/
module

public import proofs.«01_k».proof.Proof.Swap.Mesh
public import Idealize.ShloMosaic.Lib.Layout
public import Idealize.ShloMosaic.Lib.ValueIdx

@[expose] public section

noncomputable section

namespace Cert.Swap

open Cert.KernelIdeal
open Idealize.ShloMosaic
open Idealize.ShloMosaic.ValueIdx

/-- `max(x · w, 0) · v`, entry by entry, for a hidden axis of length `n`. -/
def layer (n : ℕ) (x : (⟨2, ![128, 128]⟩ : Shape).Idx → EReal) (w : (⟨2, ![128, n]⟩ : Shape).Idx → EReal)
    (v : (⟨2, ![n, 128]⟩ : Shape).Idx → EReal) : (⟨2, ![128, 128]⟩ : Shape).Idx → EReal :=
  fun i => ∑ h : Fin n, max (∑ k : Fin 128, x (ix2 (i 0) k) * w (ix2 k h)) 0 * v (ix2 h (i 1))

theorem layer_apply (n : ℕ) (x : (⟨2, ![128, 128]⟩ : Shape).Idx → EReal) (w : (⟨2, ![128, n]⟩ : Shape).Idx → EReal)
    (v : (⟨2, ![n, 128]⟩ : Shape).Idx → EReal) (r l : Fin 128) :
    layer n x w v (ix2 r l) = ∑ h : Fin n, max (∑ k : Fin 128, x (ix2 r k) * w (ix2 k h)) 0 * v (ix2 h l) := rfl

/-- A column of the part of `w` that belongs to `c` is a column of `w`. -/
theorem cut_cols (w : (⟨2, ![128, 4096]⟩ : Shape).Idx → EReal) (c : Fin 16) (k : Fin 128) (h : Fin 256) :
    Layout.block ⟨2, ![128, 256]⟩ ⟨2, ![128, 4096]⟩ 1 16 c w (by decide) (ix2 k h)
      = w (ix2 k (finProdFinEquiv (c, h))) := by
  rw [Layout.block_apply]
  refine congrArg w ?_
  funext a
  refine Fin.ext ?_
  fin_cases a
  · rfl
  · show c.val * 256 + h.val = h.val + 256 * c.val; omega

/-- A row of the part of `v` that belongs to `c` is a row of `v`. -/
theorem cut_rows (v : (⟨2, ![4096, 128]⟩ : Shape).Idx → EReal) (c : Fin 16) (h : Fin 256) (l : Fin 128) :
    Layout.block ⟨2, ![256, 128]⟩ ⟨2, ![4096, 128]⟩ 0 16 c v (by decide) (ix2 h l)
      = v (ix2 (finProdFinEquiv (c, h)) l) := by
  rw [Layout.block_apply]
  refine congrArg v ?_
  funext a
  refine Fin.ext ?_
  fin_cases a
  · show c.val * 256 + h.val = h.val + 256 * c.val; omega
  · rfl

/-- The layer is the sum of its sixteen parts. -/
theorem layer_cut (x : (⟨2, ![128, 128]⟩ : Shape).Idx → EReal) (w : (⟨2, ![128, 4096]⟩ : Shape).Idx → EReal)
    (v : (⟨2, ![4096, 128]⟩ : Shape).Idx → EReal) (i : (⟨2, ![128, 128]⟩ : Shape).Idx) :
    layer 4096 x w v i
      = ∑ c : Fin 16, layer 256 x (Layout.block ⟨2, ![128, 256]⟩ ⟨2, ![128, 4096]⟩ 1 16 c w (by decide))
          (Layout.block ⟨2, ![256, 128]⟩ ⟨2, ![4096, 128]⟩ 0 16 c v (by decide)) i := by
  obtain ⟨r, l, rfl⟩ : ∃ r l : Fin 128, i = ix2 r l := ⟨i 0, i 1, eq_ix2 i⟩
  simp only [layer_apply]
  rw [← Equiv.sum_comp (finProdFinEquiv (m := 16) (n := 256)), Fintype.sum_prod_type]
  refine Finset.sum_congr rfl fun c _ => Finset.sum_congr rfl fun h _ => ?_
  simp only [cut_rows, cut_cols]

/-! ## Sums over the mesh -/

/-- The four devices of `c`'s row, and the four of the column of each, are the sixteen devices, each once. -/
theorem org_pairs (c : Dev nD) :
    Function.Bijective fun p : Fin 4 × Fin 4 => (org false (org true c p.1) p.2 : Fin 16) := by
  revert c; decide +kernel

/-- The sum over a device's row of the sums over the columns is the sum over all devices. -/
theorem mesh_sum (c : Dev nD) (f : Dev nD → EReal) :
    ∑ p : Fin 4, ∑ q : Fin 4, f (org false (org true c p) q) = ∑ d : Fin 16, f d := by
  rw [← Fintype.sum_prod_type (f := fun p : Fin 4 × Fin 4 => f (org false (org true c p.1) p.2))]
  exact (org_pairs c).sum_comp f

end Cert.Swap

end
-- ==== Proof.Value.Device.lean ====
/-
# What a device computes

The body's arithmetic, read at the extended reals, where a change of format changes nothing.

* `shard_eq`: from its `x` and its parts of the two weights a device computes the layer over its own 256 hidden units.
* `gather_apply`: adding three received blocks to one's own.
* `full_apply`: the two exchanges of a layer leave the sum over all sixteen devices, on every device.
-/
module

public import proofs.«01_k».proof.Proof.Swap.Contents
public import proofs.«01_k».proof.Proof.Value.Layer
public import Idealize.ShloMosaic.Lib.MatmulPlain

@[expose] public section

set_option maxRecDepth 16384

noncomputable section

namespace Cert.Swap

open Cert.KernelIdeal Cert.KernelIdeal.Gen
open Idealize.ShloMosaic Idealize.ShloMosaic.TcCoe
open Idealize.ShloMosaic.ValueIdx

/-! ## The operations of a layer, for any float values -/

section Any
variable {F : FTy → Type} [FloatOps F]

/-- A device's partial product of a layer. -/
def shard (x : Vec F S128x128 .bf16) (w : Vec F S128x256 .bf16) (v : Vec F S256x128 .bf16) : FVec F S128x128 .f32 :=
  k0_pay2 (k0_pay1 x w) v

/-- Rounded for sending. -/
def sent (p : FVec F S128x128 .f32) : Vec F S128x128 .bf16 := (truncf .bf16 p bitsLt_bf16_f32 : FVec F S128x128 .bf16)

/-- A device's own block and the three it receives in exchange `k`, added up. -/
def gather (k : Bool) (p : Dev nD → FVec F S128x128 .f32) (c : Dev nD) : FVec F S128x128 .f32 :=
  k0_pay4 (p c) (three k c fun d => sent (p d))

/-- Both exchanges of a layer: first the columns, then the rows. -/
def full (p : Dev nD → FVec F S128x128 .f32) : Dev nD → FVec F S128x128 .f32 := gather true (gather false p)

variable (m : (ℓ : Loc nD τ sig) → Buf (Elt F) ℓ)

theorem part0_eq : part0 m = fun c => shard (xIn m c) (wi0 m c) (wo0 m c) := rfl
theorem part1_eq : part1 m = fun c => shard (sent (full (part0 m) c)) (wi1 m c) (wo1 m c) := by
  funext c
  unfold part1 shard k0_pay7 k0_pay1 k0_pay2
  dsimp only
  rw [shapeCast_self (sent (full (part0 m) c))]
  rfl
theorem part2_eq : part2 m = fun c => shard (sent (full (part1 m) c)) (wi2 m c) (wo2 m c) := by
  funext c
  unfold part2 shard k0_pay12 k0_pay1 k0_pay2
  dsimp only
  rw [shapeCast_self (sent (full (part1 m) c))]
  rfl
theorem outVal_eq : outVal m = full (part2 m) := rfl

end Any

/-! ## At the extended reals -/

/-- The partial product is the layer over the device's own hidden units. -/
theorem shard_eq (x : Vec Ideal S128x128 .bf16) (w : Vec Ideal S128x256 .bf16) (v : Vec Ideal S256x128 .bf16) :
    shard x w v = layer 256 x w v := by
  funext i
  obtain ⟨r, l, rfl⟩ : ∃ r l : Fin 128, i = ix2 r l := ⟨i 0, i 1, eq_ix2 i⟩
  rw [layer_apply]
  unfold shard k0_pay2 k0_pay1
  dsimp only
  rw [shapeCast_self x, shapeCast_self w, shapeCast_self v]
  refine (Ideal.matmul_plain_apply (M := 128) (K := 256) (N := 128) none _ _ _ r l).trans ?_
  rw [show constant (F := Ideal) S128x128 .f32 0x00000000#32 (ix2 r l) = 0 from Ideal.ofBits_zero_f32, zero_add]
  refine Finset.sum_congr rfl fun h _ => congrArg (· * v (ix2 h l)) ?_
  show max (FloatOps.matmul _ none x w (constant (F := Ideal) S128x256 .f32 0x00000000#32) (ix2 r h)) (Scalar.ofBits (F := Ideal) .f32 0x00000000#32) = _
  rw [show Scalar.ofBits (F := Ideal) .f32 0x00000000#32 = (0 : EReal) from Ideal.ofBits_zero_f32]
  refine congrArg (max · 0) ((Ideal.matmul_plain_apply (M := 128) (K := 128) (N := 256) none _ _ _ r h).trans ?_)
  rw [show constant (F := Ideal) S128x256 .f32 0x00000000#32 (ix2 r h) = 0 from Ideal.ofBits_zero_f32, zero_add]

/-- One exchange leaves the sum over the four devices of the group. -/
theorem gather_apply (k : Bool) (p : Dev nD → FVec Ideal S128x128 .f32) (c : Dev nD) (r l : Fin 128) :
    gather k p c (ix2 r l) = ∑ o : Fin 4, (p (org k c o) (ix2 r l) : EReal) := by
  unfold gather k0_pay4
  dsimp only
  rw [Fin.sum_univ_succ, org_zero]
  refine congrArg (p c (ix2 r l) + ·) ?_
  refine (Ideal.multiReduction_add_single _ _ _ _ _ _).trans ?_
  refine Finset.sum_congr rfl fun j _ => ?_
  exact shapeCast_dropUnit_apply ![3, 128, 128] (three k c fun d => sent (p d)) shapeCasts_S1x3x128x128_S3x128x128 _

/-- Both exchanges leave the sum over all devices, on every device. -/
theorem full_apply (p : Dev nD → FVec Ideal S128x128 .f32) (c : Dev nD) (r l : Fin 128) :
    full p c (ix2 r l) = ∑ d : Fin 16, (p d (ix2 r l) : EReal) := by
  rw [← mesh_sum c fun d => p d (ix2 r l)]
  unfold full
  rw [gather_apply]
  exact Finset.sum_congr rfl fun o _ => gather_apply false p _ r l

end Cert.Swap

end
-- ==== Proof.Swap.Schedule.lean ====
/-
# Who pays what to which semaphore, and what comes with it

Every semaphore is used in one round. A device's barrier semaphore takes one unit from each of the fifteen other devices;
the unit from device `e` comes with the slots of `e`'s buffers that this device will fill, their contents arbitrary. The
semaphore a copy arrives on takes the block's credit, with the filled slot; the one it leaves by takes the same credit,
with the part of slot `0` the copy was reading.
-/
module

public import proofs.«01_k».proof.Proof.Swap.Contents

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

/-- What is listed by `a` is listed once by `b`, when each `b` stands under exactly one `a`. -/
theorem bigSep_under {M : Type} [URA M] {α β : Type} [Fintype α] [Fintype β] [DecidableEq α] [DecidableEq β] (T : α → Finset β)
    (f : β → α) (hT : ∀ a b, b ∈ T a ↔ a = f b) (Φ : α → β → sProp M) :
    bigSep Finset.univ (fun a => bigSep (T a) (Φ a)) = bigSep Finset.univ fun b => Φ (f b) b := by
  have hT' : ∀ a, T a = Finset.univ.filter fun b => a = f b := fun a => by
    ext b; rw [hT, Finset.mem_filter]; exact ⟨fun h => ⟨Finset.mem_univ _, h⟩, fun h => h.2⟩
  simp only [hT', bigSep_filter]
  rw [bigSep_univ_comm]
  refine bigSep_congr fun b _ => ?_
  rw [← bigSep_filter, Finset.filter_eq', if_pos (Finset.mem_univ _), bigSep_singleton]

/-! ## The ghost state: the staging's own, and the exchanges' (payments numbered below fifteen) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## A slot, held -/

/-- Slot `o` of layer `l` in device `c`'s buffer of exchange `k`, held at share `q` with contents `f`. -/
def slotPts (k : Bool) (l : Fin 3) (o : Fin 4) (c : Dev nD) (q : PosShare TreeShare)
    (f : Buf (Elt F) ((commM k).view.loc (c : Thread nD τ))) : sProp 𝕄 :=
  (slotM k l o).view.loc (c : Thread nD τ) ↦[(slotM k l o).view.set]{q} f

omit [FloatOps F] in
instance slotPts_storable (k : Bool) (l : Fin 3) (o : Fin 4) (c : Dev nD) (q : PosShare TreeShare) (f) :
    BI.Storable (upEmb : UEmb _ 𝕄) (slotPts (F := F) k l o c q f) := by unfold slotPts; infer_instance

/-- The slot copy `x` fills on device `c`, contents arbitrary. -/
def freeSlot (c : Dev nD) (x : Copy) : sProp 𝕄 := iprop(∃ f, slotPts x.1 x.2.1 x.2.2.succ c fullShare f)

omit [FloatOps F] in
instance freeSlot_storable (c : Dev nD) (x : Copy) : BI.Storable (upEmb : UEmb _ 𝕄) (freeSlot (F := F) c x) := by
  unfold freeSlot; infer_instance

/-! ## The schedule -/

/-- A block's credit. -/
abbrev N : ℕ := (slotM false 0 0).view.dmaCredit
theorem N_pos : 0 < N := View.dmaCredit_pos _ (by decide)

/-- What the `i`-th payment to `d`'s barrier semaphore brings. -/
def barPay (d : Dev nD) (i : Fin 15) : sProp 𝕄 := bigSep (offer (bwd d i) i) fun x => freeSlot (bwd d i) x
/-- What the arrival of copy `x` brings. -/
def recvPay (x : Copy) (c : Dev nD) : sProp 𝕄 := slotPts x.1 x.2.1 x.2.2.succ c fullShare (held m x.1 c)
/-- What the departure of copy `x` gives back. -/
def sendPay (x : Copy) (c : Dev nD) : sProp 𝕄 := slotPts x.1 x.2.1 0 c (shares3 fullShare x.2.2) (held m x.1 c)

/-- Which copy a semaphore counts, and whether its arrival (`true`) or departure. -/
def role (q : DmaSem sig) : Option (Bool × Copy) :=
  if h : 8 ≤ q.val ∧ (q.val - 8) % 4 ≠ 0 then
    some (decide ((q.val - 8) % 24 / 12 = 1), decide ((q.val - 8) / 24 = 1), ⟨(q.val - 8) % 12 / 4, by omega⟩, ⟨(q.val - 8) % 4 - 1, by omega⟩)
  else none

theorem role_idle (d k : Bool) (l : Fin 3) : role (semOf d k l 0) = none := by revert d k l; decide
theorem role_send (k : Bool) (l j : Fin 3) : role (sendS k l j) = some (false, k, l, j) := by revert k l j; decide
theorem role_recv (k : Bool) (l j : Fin 3) : role (recvS k l j) = some (true, k, l, j) := by revert k l j; decide

def dutiesAt (s : SemLoc sig) : Finset (Fin 15) :=
  match s with
  | .reg s => if s = barS then Finset.univ else ∅
  | .dma q => if (role q).isSome then {0} else ∅

def amountAt (s : SemLoc sig) : ℕ := match s with | .reg _ => 1 | .dma _ => N

def payAt (c : Dev nD) (s : SemLoc sig) (i : Fin 15) : sProp 𝕄 :=
  match s with
  | .reg _ => barPay c i
  | .dma q => match role q with
    | none => iprop(emp)
    | some (false, x) => sendPay m x c
    | some (true, x) => recvPay m x c

def Rd : Rounds.Schedule (GSem nD τ sig) (Fin 15) 𝕄 where
  duties g r := if r = 0 ∧ g.1.2 = .tc then dutiesAt g.2 else ∅
  unitless _ := False
  amount g _ _ := amountAt g.2
  payload g _ i := payAt m g.1.1 g.2 i
  amount_pos g _ _ _ := by
    show 0 < amountAt g.2
    unfold amountAt
    cases g.2
    · exact Nat.one_pos
    · exact N_pos

omit [FloatOps F] in
instance barPay_storable (d : Dev nD) (i : Fin 15) : BI.Storable (upEmb : UEmb _ 𝕄) (barPay (F := F) d i) := by
  unfold barPay; infer_instance

instance Rd_payload_storable (g : GSem nD τ sig) (r : ℕ) (i : Fin 15) :
    BI.Storable (upEmb : UEmb _ 𝕄) ((Rd (F := F) m).payload g r i) := by
  show BI.Storable upEmb (payAt m g.1.1 g.2 i)
  unfold payAt sendPay recvPay
  (repeat' split) <;> infer_instance

section Lookups
variable (c : Dev nD) (k : Bool) (l j : Fin 3)

theorem duties_bar : (Rd (F := F) m).duties (barCell c) 0 = Finset.univ := by
  dsimp only [Rd]; rw [if_pos ⟨rfl, rfl⟩]; dsimp only [dutiesAt]; exact if_pos rfl
theorem duties_send : (Rd (F := F) m).duties (sendCell k l j c) 0 = {0} := by
  dsimp only [Rd]; rw [if_pos ⟨rfl, rfl⟩]; exact if_pos (by rw [role_send]; rfl)
theorem duties_recv : (Rd (F := F) m).duties (recvCell k l j c) 0 = {0} := by
  dsimp only [Rd]; rw [if_pos ⟨rfl, rfl⟩]; exact if_pos (by rw [role_recv]; rfl)
theorem duties_later (g : GSem nD τ sig) : ∀ r, 1 ≤ r → (Rd (F := F) m).duties g r = ∅ :=
  fun r hr => by dsimp only [Rd]; exact if_neg fun h => by omega
theorem duties_idle (q : DmaSem sig) (h : role q = none) : ∀ r, (Rd (F := F) m).duties ((c : Thread nD τ), .dma q) r = ∅ := fun r => by
  dsimp only [Rd]
  split
  · exact if_neg (by rw [h]; decide)
  · rfl

theorem amount_bar (i : Fin 15) : (Rd (F := F) m).amount (barCell c) 0 i = 1 := rfl
theorem amount_dma (q : DmaSem sig) (i : Fin 15) : (Rd (F := F) m).amount ((c : Thread nD τ), .dma q) 0 i = N := rfl

theorem expect_bar : (Rd (F := F) m).expect (barCell c) 0 = 15 := by
  unfold Schedule.expect Schedule.amountOf
  rw [duties_bar, Finset.sum_congr rfl fun i _ => amount_bar m c i, Finset.sum_const, Finset.card_univ, Fintype.card_fin, smul_eq_mul]
theorem expect_send : (Rd (F := F) m).expect (sendCell k l j c) 0 = N := by
  unfold Schedule.expect Schedule.amountOf; rw [duties_send, Finset.sum_singleton, amount_dma]
theorem expect_recv : (Rd (F := F) m).expect (recvCell k l j c) 0 = N := by
  unfold Schedule.expect Schedule.amountOf; rw [duties_recv, Finset.sum_singleton, amount_dma]

theorem payload_bar (i : Fin 15) : (Rd (F := F) m).payload (barCell c) 0 i = barPay c i := rfl
theorem payload_send (i : Fin 15) : (Rd (F := F) m).payload (sendCell k l j c) 0 i = sendPay m (k, l, j) c := by
  show payAt m c (.dma (sendS k l j)) i = _
  unfold payAt; simp only [role_send]
theorem payload_recv (i : Fin 15) : (Rd (F := F) m).payload (recvCell k l j c) 0 i = recvPay m (k, l, j) c := by
  show payAt m c (.dma (recvS k l j)) i = _
  unfold payAt; simp only [role_recv]

/-- All that the barrier brings: on every partner's side, the slot this device's copy fills. -/
theorem rest_bar : bigSep ((Rd (F := F) m).duties (barCell c) 0 \ ∅) (fun i => (Rd (F := F) m).payload (barCell c) 0 i)
    = bigSep Finset.univ fun x : Copy => freeSlot (tgt x.1 c x.2.2.succ) x := by
  rw [Finset.sdiff_empty, duties_bar]
  show (bigSep Finset.univ fun i => bigSep (offer (bwd c i) i) fun x => freeSlot (bwd c i) x) = _
  rw [bigSep_under (fun i => offer (bwd c i) i) (takeNo c) (fun i x => mem_take c i x)]
  refine bigSep_congr fun x _ => ?_
  rw [bwd_takeNo]
theorem rest_send : bigSep ((Rd (F := F) m).duties (sendCell k l j c) 0 \ ∅) (fun i => (Rd (F := F) m).payload (sendCell k l j c) 0 i)
    = sendPay m (k, l, j) c := by
  rw [Finset.sdiff_empty, duties_send, bigSep_singleton, payload_send]
theorem rest_recv : bigSep ((Rd (F := F) m).duties (recvCell k l j c) 0 \ ∅) (fun i => (Rd (F := F) m).payload (recvCell k l j c) 0 i)
    = recvPay m (k, l, j) c := by
  rw [Finset.sdiff_empty, duties_recv, bigSep_singleton, payload_recv]

omit [FloatOps F] in
/-- A device's own slots, dealt out to its fifteen signals. -/
theorem offers : (bigSep Finset.univ fun x : Copy => (freeSlot c x : sProp 𝕄)) = bigSep Finset.univ fun i => barPay (fwd c i) i := by
  unfold barPay
  simp only [bwd_fwd]
  rw [bigSep_under (fun i => offer c i) (offerNo c) (fun i x => mem_offer c i x)]

end Lookups

end Cert.Swap

end
-- ==== Proof.Swap.Owed.lean ====
/-
# What a device still owes, and the order of the semaphores

At launch a device owes one unit to each of the fifteen other barrier semaphores and a block's credit to each semaphore
its eighteen copies arrive on. It pays in program order. Every semaphore has a level: the barrier below all arrivals, the
arrivals in the order of the exchanges; at each wait a device owes only to semaphores of a higher level.
-/
module

public import proofs.«01_k».proof.Proof.Swap.Schedule

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The debts -/

/-- The copies of one exchange, owed on top of `O`; the nearest partner's is paid first. -/
def triOwed (k : Bool) (l : Fin 3) (c : Dev nD) (O : CellTallies nD τ sig Unit) : CellTallies nD τ sig Unit :=
  O + tallyAt (recvCell k l 2 (tgt k c (Fin.succ 2))) () N + tallyAt (recvCell k l 1 (tgt k c (Fin.succ 1))) () N
    + tallyAt (recvCell k l 0 (tgt k c (Fin.succ 0))) () N

/-- The exchange after which `r` more are to come. -/
def phase : ℕ → Bool × Fin 3
  | 0 => (true, 2) | 1 => (false, 2) | 2 => (true, 1) | 3 => (false, 1) | 4 => (true, 0) | _ + 5 => (false, 0)

/-- What a device owes with `r` exchanges to come. -/
def owedLeft (c : Dev nD) : ℕ → CellTallies nD τ sig Unit
  | 0 => 0
  | r + 1 => triOwed (phase r).1 (phase r).2 c (owedLeft c r)

/-- The signal after which `r` more are to come. -/
def sigNo (r : ℕ) : Fin 15 := ⟨14 - r, by omega⟩

/-- What a device owes with `r` signals and all exchanges to come. -/
def owedSig (c : Dev nD) : ℕ → CellTallies nD τ sig Unit
  | 0 => owedLeft c 6
  | r + 1 => owedSig c r + tallyAt (barCell (fwd c (sigNo r))) () 1

/-- What a device owes at launch. -/
def O₀ (c : Dev nD) : CellTallies nD τ sig Unit := owedSig c 15

theorem pos_triOwed {k : Bool} {l : Fin 3} {c : Dev nD} {O : CellTallies nD τ sig Unit} {g : GSem nD τ sig} {u : Unit}
    (h : 0 < triOwed k l c O g u) : 0 < O g u ∨ ∃ j : Fin 3, g = recvCell k l j (tgt k c j.succ) := by
  unfold triOwed at h
  by_contra hn
  rw [not_or, not_exists] at hn
  simp only [Pi.add_apply, Finsupp.add_apply, tallyAt_apply, if_neg (fun h' => hn.2 _ (And.left h'))] at h
  exact hn.1 h

theorem phase_order (r : ℕ) : 6 ≤ 2 * (phase r).2.val + (phase r).1.toNat + (r + 1) := by
  match r with
  | 0 => decide
  | 1 => decide
  | 2 => decide
  | 3 => decide
  | 4 => decide
  | r + 5 => show 6 ≤ 2 * 0 + 0 + (r + 5 + 1); omega

theorem pos_owedLeft {c : Dev nD} {g : GSem nD τ sig} {u : Unit} : ∀ {r : ℕ}, 0 < owedLeft c r g u →
    ∃ (k : Bool) (l j : Fin 3), g = recvCell k l j (tgt k c j.succ) ∧ 6 ≤ 2 * l.val + k.toNat + r
  | 0, h => absurd h (Nat.lt_irrefl 0)
  | r + 1, h => by
    rcases pos_triOwed h with h | ⟨j, hj⟩
    · obtain ⟨k, l, j, e, hl⟩ := pos_owedLeft h
      exact ⟨k, l, j, e, by omega⟩
    · exact ⟨_, _, j, hj, phase_order r⟩

theorem pos_owedSig {c : Dev nD} {g : GSem nD τ sig} {u : Unit} : ∀ {r : ℕ}, 0 < owedSig c r g u →
    (∃ d, g = barCell d) ∨ ∃ (k : Bool) (l j : Fin 3) (d : Dev nD), g = recvCell k l j d
  | 0, h => by
    obtain ⟨k, l, j, e, -⟩ := pos_owedLeft h
    exact .inr ⟨k, l, j, _, e⟩
  | r + 1, h => by
    by_cases hg : g = barCell (fwd c (sigNo r))
    · exact .inl ⟨_, hg⟩
    · refine pos_owedSig (c := c) (r := r) (u := u) ?_
      unfold owedSig at h
      rw [Pi.add_apply, Finsupp.add_apply, tallyAt_apply, if_neg (fun h' => hg h'.1)] at h
      exact h

/-! ## The levels -/

def L (g : GSem nD τ sig) : Finset Unit := if g.1.2 = .tc then {()} else ∅
def lvS : SemLoc sig → ℕ
  | .reg _ => 1
  | .dma q => match role q with
    | some (true, k, l, _) => 2 + 2 * l.val + k.toNat
    | _ => 0
def lv (g : GSem nD τ sig) (_ : Unit) : ℕ := lvS g.2

theorem L_of_ne (g : GSem nD τ sig) (h : g.1.2 ≠ .tc) : L g = ∅ := if_neg h
theorem L_tc (c : Dev nD) (s : SemLoc sig) : L ((c : Thread nD τ), s) = {()} := if_pos rfl

theorem lvS_recv (k : Bool) (l j : Fin 3) : lvS (.dma (recvS k l j)) = 2 + 2 * l.val + k.toNat := by
  unfold lvS; simp only [role_recv]

omit [FloatOps F] in
/-- A device may wait on a semaphore below all it owes to. -/
theorem mayWait_below (c : Dev nD) (s : SemLoc sig) (O : CellTallies nD τ sig Unit)
    (h : ∀ (g : GSem nD τ sig) (u : Unit), 0 < O g u → g.1.2 = .tc ∧ lvS s < lvS g.2) :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => by rw [L, if_pos (h g u hg).1]; exact Finset.mem_singleton_self _)
    (fun p hp => by rw [Finset.mem_singleton.mp hp]; exact le_rfl)
    (fun g u hg => (h g u hg).2)

omit [FloatOps F] in
/-- A staging semaphore: below everything. -/
theorem mayWait_stage (c : Dev nD) (q : DmaSem sig) (hq : role q = none) : (levAts L lv : sProp 𝕄) ⊢ MayWait (c : Thread nD τ) (.dma q) () (O₀ c) :=
  mayWait_below c _ _ fun g u hg => by
    have h0 : lvS (.dma q) = 0 := by unfold lvS; simp only [hq]
    rw [h0]
    rcases pos_owedSig hg with ⟨d, rfl⟩ | ⟨k, l, j, d, rfl⟩
    · exact ⟨rfl, Nat.one_pos⟩
    · exact ⟨rfl, by rw [lvS_recv]; omega⟩

omit [FloatOps F] in
/-- Nothing owed: any semaphore. -/
theorem mayWait_none (c : Dev nD) (s : SemLoc sig) : (levAts L lv : sProp 𝕄) ⊢ MayWait (c : Thread nD τ) s () 0 := by
  rw [MayWait_zero]; iintro -; iempintro

omit [FloatOps F] in
/-- The barrier, all copies still owed. -/
theorem mayWait_bar (c : Dev nD) : (levAts L lv : sProp 𝕄) ⊢ MayWait (c : Thread nD τ) (.reg barS) () (owedLeft c 6) :=
  mayWait_below c _ _ fun g u hg => by
    obtain ⟨k, l, j, rfl, -⟩ := pos_owedLeft hg
    exact ⟨rfl, by rw [lvS_recv]; show 1 < _; omega⟩

omit [FloatOps F] in
/-- An arrival, with only later exchanges owed. -/
theorem mayWait_recv (c : Dev nD) (k : Bool) (l j : Fin 3) (r : ℕ) (hr : 2 * l.val + k.toNat + r ≤ 5) :
    (levAts L lv : sProp 𝕄) ⊢ MayWait (c : Thread nD τ) (.dma (recvS k l j)) () (owedLeft c r) :=
  mayWait_below c _ _ fun g u hg => by
    obtain ⟨k', l', j', rfl, h⟩ := pos_owedLeft hg
    exact ⟨rfl, by rw [lvS_recv, lvS_recv]; omega⟩

end Cert.Swap

end
-- ==== Proof.Swap.Steps.lean ====
/-
# The steps of a run, each stated once

What the launch set up for good (`records`: every semaphore's invariant, and that every one of them has reached its
round), and a rule for each kind of step: a signal, storing a block into slot `0`, sending it, waiting for one to come,
waiting for one to have left.
-/
module

public import proofs.«01_k».proof.Proof.Swap.Owed

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]
local notation "𝕄" => MT nD τ sig Unit (Elt F) ℕ UU ℕ
variable (m : (ℓ : Loc nD τ sig) → Buf (Elt F) ℓ)

abbrev 𝒱₀ : Variants := Variants.none

/-! ## What holds for good -/

/-- Every semaphore's invariant, under the names `K`, and that its round has been reached; and the levels. -/
def records (K : Dev nD × Option Own → ℕ) : sProp 𝕄 :=
  iprop((bigSep Finset.univ fun x => cellInv ER (Rd m) (K x) (kcell x)) ∗ (bigSep Finset.univ fun x => reached ER (kcell x) 0) ∗ levAts L lv)

instance records_persistent (K : Dev nD × Option Own → ℕ) : BI.Persistent (records m K) := by unfold records; infer_instance

variable (K : Dev nD × Option Own → ℕ)

theorem inv_at (x : Dev nD × Option Own) : records m K ⊢ cellInv ER (Rd m) (K x) (kcell x) := by
  have h : (bigSep Finset.univ fun x => (cellInv ER (Rd m) (K x) (kcell x) : sProp 𝕄)) ⊢ cellInv ER (Rd m) (K x) (kcell x) :=
    bigSep_elim (Finset.mem_univ x)
  unfold records
  iintro ⟨H, -⟩
  iapply h $$ H
theorem reached_at (x : Dev nD × Option Own) : records m K ⊢ reached ER (kcell x) 0 := by
  have h : (bigSep Finset.univ fun x => (reached ER (kcell x) 0 : sProp 𝕄)) ⊢ reached ER (kcell x) 0 := bigSep_elim (Finset.mem_univ x)
  unfold records
  iintro ⟨-, H, -⟩
  iapply h $$ H
theorem lev_at : records m K ⊢ levAts L lv := by
  unfold records
  iintro ⟨-, -, H⟩
  iexact H

/-- What a device owes, whatever it has waited on. -/
def debt (c : Dev nD) (O : CellTallies nD τ sig Unit) : sProp 𝕄 := iprop(∃ W, owes (c : Thread nD τ) O W)

/-! ## Signals -/

/-- The signals after which fewer than `r` more are to come. -/
def rest (r : ℕ) : Finset (Fin 15) := Finset.univ.filter fun i => 15 ≤ i.val + r
theorem rest_all : rest 15 = Finset.univ := by decide
theorem rest_none : rest 0 = ∅ := by decide
theorem rest_succ (r : ℕ) (h : r < 15) : rest (r + 1) = insert (sigNo r) (rest r) := by
  ext i
  simp only [rest, sigNo, Finset.mem_filter, Finset.mem_univ, true_and, Finset.mem_insert, Fin.ext_iff]
  omega
theorem sigNo_not_mem (r : ℕ) (h : r < 15) : sigNo r ∉ rest r := by
  simp only [rest, sigNo, Finset.mem_filter, Finset.mem_univ, true_and]
  omega

/-- What the signals still to come are made with. -/
def toSignal (c : Dev nD) (r : ℕ) : sProp 𝕄 :=
  bigSep (rest r) fun i => iprop(dutyTok ER (barCell (fwd c i)) 0 i ∗ barPay (fwd c i) i)

omit [FloatOps F] in
theorem toSignal_succ (c : Dev nD) (r : ℕ) (h : r < 15) : (toSignal c (r + 1) : sProp 𝕄)
    = iprop((dutyTok ER (barCell (fwd c (sigNo r))) 0 (sigNo r) ∗ barPay (fwd c (sigNo r)) (sigNo r)) ∗ toSignal c r) := by
  unfold toSignal
  rw [rest_succ r h, bigSep_insert (sigNo_not_mem r h)]
  rfl

/-- The signal after which `r` more are to come. -/
theorem wp_sig (c : Dev nD) (r : ℕ) (h : r < 15) {α : Type} {Q : α → sProp 𝕄} {k : PUnit → Prog (TpuEff nD τ sig (Elt F) Λ₀ .tc) α} :
    iprop(records m K ∗ debt c (owedSig c (r + 1)) ∗ toSignal c (r + 1))
      ⊢ iprop(((debt c (owedSig c r) ∗ toSignal c r) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd c (sigNo r) : Dev nD) : Thread nD τ) barS (1#32).toInt) k) Q) := by
  unfold debt
  rw [toSignal_succ c r h]
  iintro ⟨#HR, ⟨%W, HO⟩, ⟨Ht, Hp⟩, Hrest⟩ Hk
  iapply (Rounds.wp_signal 𝒱₀ ER (Rd m) (c : Thread nD τ) none (dst := (fwd c (sigNo r) : Thread nD τ)) (κ := K (fwd c (sigNo r), none))
      (d := sigNo r) (by rw [duties_bar]; exact Finset.mem_univ _) ((amount_bar m (fwd c (sigNo r)) (sigNo r)).trans (by decide)) () (owedSig c r) rfl)
    $$ [HO Ht Hp]
  · isplitr; · iapply (inv_at m K (fwd c (sigNo r), none)); iexact HR
    isplitl [HO]; · iexact HO
    isplitl [Ht]; · iexact Ht
    isplitl [Hp]; · rw [payload_bar]; iexact Hp
    iapply (reached_at m K (fwd c (sigNo r), none)); iexact HR
  iintro HO
  iapply Hk
  isplitl [HO]; · iexists W; iexact HO
  iexact Hrest

/-! ## The barrier -/

theorem wp_bar (c : Dev nD) {α : Type} {Q : α → sProp 𝕄} {k : PUnit → Prog (TpuEff nD τ sig (Elt F) Λ₀ .tc) α} :
    iprop(records m K ∗ debt c (owedLeft c 6) ∗ cred (tallyAt (barCell c) () 15) ∗ atPos ER (barCell c) 0 ∅ 0)
      ⊢ iprop(((debt c (owedLeft c 6) ∗ atPos ER (barCell c) 1 ∅ 0 ∗ bigSep Finset.univ fun x : Copy => freeSlot (tgt x.1 c x.2.2.succ) x)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32).toInt) k) Q) := by
  unfold debt
  iintro ⟨#HR, ⟨%W, HO⟩, Hc, Ha⟩ Hk
  iapply (Rounds.wp_wait_rest_token 𝒱₀ ER (Rd m) (c : Thread nD τ) none (κ := K (c, none))
      (wpE_semWait_eq 𝒱₀ (c : Thread nD τ) none Set.univ) (Set.mem_univ _) () (O := owedLeft c 6) (W := W) (R := 0) (m := 0) (T := ∅)
      (by rw [expect_bar]; decide)) $$ [Hc HO Ha]
  · isplitr; · iapply (inv_at m K (c, none)); iexact HR
    isplitl [Hc]; · iexact Hc
    isplitl [HO]; · iexact HO
    isplitr; · iapply (mayWait_bar c); iapply (lev_at m K); iexact HR
    iexact Ha
  iintro ⟨HO, Ha, -, Hpay⟩
  ihave Hp := (Entails.of_eq (rest_bar m c)) $$ Hpay
  iapply Hk
  isplitl [HO]; · iexists _; iexact HO
  isplitl [Ha]; · iexact Ha
  iexact Hp

/-! ## A block into slot `0` -/

/-- The elements a store to slot `0` touches are the slot's. -/
theorem slot_set (k : Bool) (l : Fin 3) (o : Fin 4) : (slotM k l o).view.set = ((commM k).access (slotR l o)).set := View.set_reshape _ _

theorem wp_put (k : Bool) (l : Fin 3) (c : Dev nD) (w : Vec F S1x1x128x128 .bf16) (hc : S128x128.ShapeCasts S1x1x128x128)
    (hw : w = shapeCast S1x1x128x128 (val m k l c) hc) {hl : (commM k).view.LoadsAt (slotR l 0).toLoadRect}
    {hx : ((commM k).access (slotR l 0)).Stores Finset.univ}
    {hm : (Finset.univ : Finset S1x1x128x128.Idx) = Finset.univ ∨ ∀ a, (slotR l 0).stride a = 1}
    {α : Type} {Q : α → sProp 𝕄} {kk : PUnit → Prog (TpuEff nD τ sig (Elt F) Λ₀ .tc) α} :
    iprop(∃ f, slotPts k l 0 c fullShare f)
      ⊢ iprop((slotPts k l 0 c fullShare (held m k c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (commM k) (slotR l 0).toLoadRect hl) fun _ => .op (.store (commM k) (slotR l 0) w Finset.univ hx hm) kk) Q) := by
  unfold slotPts
  rw [slot_set]
  iintro ⟨%f, H⟩ Hk
  iapply (wp_load_rect 𝒱₀ (c : Thread nD τ) none Set.univ (m := commM k) (r := slotR l 0) (Finset.Subset.refl _)) $$ H
  iintro H
  iapply (wp_store 𝒱₀ (c : Thread nD τ) none Set.univ (m := commM k) (r := slotR l 0) (Mk := Finset.univ)
    (S := ((commM k).access (slotR l 0)).set) (Finset.Subset.refl _)) $$ H
  iintro H
  iapply Hk
  iapply (Entails.of_eq (pointsTo_congr (write_agrees ((commM k).access (slotR l 0)) f (held m k c) w
    ((store_read m k l c hc).trans hw.symm)))) $$ H

/-! ## Copies -/

/-- Every slot's block has the same credit. -/
theorem slot_credit (k : Bool) (l : Fin 3) (o : Fin 4) : (slotM k l o).view.dmaCredit = N := by cases k <;> rfl

/-- The `j`-th copy of an exchange: the source is a third of slot `0`, the target what the barrier brought. -/
theorem wp_send_slot (k : Bool) (l j : Fin 3) (c n : Dev nD) (hn : n = tgt k c j.succ) (O : CellTallies nD τ sig Unit)
    {hsc : (slotM k l j.succ : Memref sig (Dev.tc n : Thread nD τ).2.kind .vmem S128x128 .bf16).view.ref.isScScratch = false}
    {hsrc : (slotM k l 0).view.WordExact} {hdst : (slotM k l j.succ).view.WordExact}
    {hsem : DmaTarget.Typed .vmem (.dma (recvS k l j)) (.remote (Dev.tc n : Thread nD τ) (slotM k l j.succ) (.dma (sendS k l j)) hsc)}
    {α : Type} {Q : α → sProp 𝕄} {kk : PUnit → Prog (TpuEff nD τ sig (Elt F) Λ₀ .tc) α} :
    iprop(records m K ∗ slotPts k l 0 c (shares3 fullShare j) (held m k c) ∗ freeSlot (tgt k c j.succ) (k, l, j)
        ∗ debt c (O + tallyAt (recvCell k l j (tgt k c j.succ)) () N)
        ∗ dutyTok ER (sendCell k l j c) 0 0 ∗ dutyTok ER (recvCell k l j (tgt k c j.succ)) 0 0)
      ⊢ iprop(((cred (tallyAt (sendCell k l j c) () N) ∗ debt c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM k l 0) (.remote (Dev.tc n : Thread nD τ) (slotM k l j.succ) (.dma (sendS k l j)) hsc) (.dma (recvS k l j)) hsrc hdst hsem) kk) Q) := by
  subst hn
  unfold debt freeSlot
  iintro ⟨#HR, Hs, ⟨%fn, Hd⟩, ⟨%W, HO⟩, Hts, Htr⟩ Hk
  unfold slotPts
  iapply (Rounds.wp_send_pointsTo 𝒱₀ ER (Rd m) (c : Thread nD τ) none (κ₁ := K (c, some (false, k, l, j.succ)))
      (κ₂ := K (tgt k c j.succ, some (true, k, l, j.succ)))
      (c' := (tgt k c j.succ : Thread nD τ)) (src := slotM k l 0) (dst := slotM k l j.succ) (sS := .dma (sendS k l j)) (sem := .dma (recvS k l j))
      (r₁ := 0) (r₂ := 0) (d₁ := 0) (d₂ := 0) (fs := held m k c) (fd := fn) (q := shares3 fullShare j)
      (by rw [duties_send]; exact Finset.mem_singleton_self _) (by rw [duties_recv]; exact Finset.mem_singleton_self _)
      () () N (slot_credit k l j.succ) (amount_dma m c _ 0) (amount_dma m (tgt k c j.succ) _ 0) O rfl (W := W)
      (by rw [payload_send]; exact BI.Entails.refl _)
      (by
        rw [payload_recv]; unfold recvPay slotPts
        refine Entails.of_eq (pointsTo_congr (write_agrees (slotM k l j.succ).view fn (held m k (tgt k c j.succ)) _ ?_))
        rw [slot_read, slot_read, org_tgt, org_zero])) $$ [Hs Hd HO Hts Htr]
  · isplitr; · iapply (inv_at m K (c, some (false, k, l, j.succ))); iexact HR
    isplitr; · iapply (inv_at m K (tgt k c j.succ, some (true, k, l, j.succ))); iexact HR
    isplitl [Hs]; · iexact Hs
    isplitl [Hd]; · iexact Hd
    isplitl [HO]; · iexact HO
    isplitl [Hts]; · iexact Hts
    isplitr; · iapply (reached_at m K (c, some (false, k, l, j.succ))); iexact HR
    isplitl [Htr]; · iexact Htr
    iapply (reached_at m K (tgt k c j.succ, some (true, k, l, j.succ))); iexact HR
  iintro ⟨Hc, HO⟩
  iapply Hk
  isplitl [Hc]; · iexact Hc
  iexists W; iexact HO

/-- Waiting for the `j`-th copy to come, only later exchanges owed: the slot comes filled. -/
theorem wp_recv_slot (k : Bool) (l j : Fin 3) (c : Dev nD) (r : ℕ) (hr : 2 * l.val + k.toNat + r ≤ 5)
    {src dst : Memref sig .tc .vmem S128x128 .bf16} (hd : dst.view.dmaCredit = N) {hsrc : src.view.WordExact} {hdst : dst.view.WordExact}
    {α : Type} {Q : α → sProp 𝕄} {kk : PUnit → Prog (TpuEff nD τ sig (Elt F) Λ₀ .tc) α} :
    iprop(records m K ∗ debt c (owedLeft c r) ∗ cred (tallyAt (recvCell k l j c) () N) ∗ atPos ER (recvCell k l j c) 0 ∅ 0)
      ⊢ iprop(((debt c (owedLeft c r) ∗ atPos ER (recvCell k l j c) 1 ∅ 0 ∗ slotPts k l j.succ c fullShare (held m k c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k l j) src dst hsrc hdst) kk) Q) := by
  unfold debt
  iintro ⟨#HR, ⟨%W, HO⟩, Hc, Ha⟩ Hk
  iapply (Rounds.wp_wait_rest_token 𝒱₀ ER (Rd m) (c : Thread nD τ) none (κ := K (c, some (true, k, l, j.succ)))
      (wpE_waitDma2_eq 𝒱₀ (c : Thread nD τ) none Set.univ) (Set.mem_univ _) () (O := owedLeft c r) (W := W) (R := 0) (m := 0) (T := ∅)
      (by rw [Nat.zero_add, expect_recv, hd])) $$ [Hc HO Ha]
  · isplitr; · iapply (inv_at m K (c, some (true, k, l, j.succ))); iexact HR
    isplitl [Hc]; · rw [hd]; iexact Hc
    isplitl [HO]; · iexact HO
    isplitr; · iapply (mayWait_recv c k l j r hr); iapply (lev_at m K); iexact HR
    iexact Ha
  iintro ⟨HO, Ha, -, Hpay⟩
  ihave Hp := (Entails.of_eq (rest_recv m c k l j)) $$ Hpay
  iapply Hk
  isplitl [HO]; · iexists _; iexact HO
  isplitl [Ha]; · iexact Ha
  unfold recvPay
  iexact Hp

/-- Waiting for the `j`-th copy to have left, nothing owed: its third of slot `0` comes back. -/
theorem wp_left_slot (k : Bool) (l j : Fin 3) (c : Dev nD)
    {src dst : Memref sig .tc .vmem S128x128 .bf16} (hd : dst.view.dmaCredit = N) {hsrc : src.view.WordExact} {hdst : dst.view.WordExact}
    {α : Type} {Q : α → sProp 𝕄} {kk : PUnit → Prog (TpuEff nD τ sig (Elt F) Λ₀ .tc) α} :
    iprop(records m K ∗ debt c 0 ∗ cred (tallyAt (sendCell k l j c) () N) ∗ atPos ER (sendCell k l j c) 0 ∅ 0)
      ⊢ iprop(((debt c 0 ∗ atPos ER (sendCell k l j c) 1 ∅ 0 ∗ slotPts k l 0 c (shares3 fullShare j) (held m k c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k l j) src dst hsrc hdst) kk) Q) := by
  unfold debt
  iintro ⟨#HR, ⟨%W, HO⟩, Hc, Ha⟩ Hk
  iapply (Rounds.wp_wait_rest_token 𝒱₀ ER (Rd m) (c : Thread nD τ) none (κ := K (c, some (false, k, l, j.succ)))
      (wpE_waitDma2_eq 𝒱₀ (c : Thread nD τ) none Set.univ) (Set.mem_univ _) () (O := 0) (W := W) (R := 0) (m := 0) (T := ∅)
      (by rw [Nat.zero_add, expect_send, hd])) $$ [Hc HO Ha]
  · isplitr; · iapply (inv_at m K (c, some (false, k, l, j.succ))); iexact HR
    isplitl [Hc]; · rw [hd]; iexact Hc
    isplitl [HO]; · iexact HO
    isplitr; · iapply (mayWait_none c); iapply (lev_at m K); iexact HR
    iexact Ha
  iintro ⟨HO, Ha, -, Hpay⟩
  ihave Hp := (Entails.of_eq (rest_send m c k l j)) $$ Hpay
  iapply Hk
  isplitl [HO]; · iexists _; iexact HO
  isplitl [Ha]; · iexact Ha
  unfold sendPay
  iexact Hp

end Cert.Swap

end
-- ==== Proof.Swap.Exchange.lean ====
/-
# One exchange

Three copies sent, three waited for, and the three slots they filled loaded: the same for either direction and every
layer. And at the end of a run, the three waits for an exchange's copies to have left, which make slot `0` whole again.
-/
module

public import proofs.«01_k».proof.Proof.Swap.Steps

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]
local notation "𝕄" => MT nD τ sig Unit (Elt F) ℕ UU ℕ
variable (m : (ℓ : Loc nD τ sig) → Buf (Elt F) ℓ)
variable (K : Dev nD × Option Own → ℕ)

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-! ## The three slots filled by others, as one region -/

/-- A slot's elements, by the rectangle. -/
theorem slot_elems (k : Bool) (l : Fin 3) (o : Fin 4) : (slotM k l o).view.set = (slotR l o).set.map (commM k).view.emb :=
  (slot_set k l o).trans (View.set_slice _ _)

theorem slots_disjoint (k : Bool) (l l' : Fin 3) (o o' : Fin 4) (h : (l, o) ≠ (l', o')) :
    Disjoint (slotM k l o).view.set (slotM k l' o').view.set := by
  rw [slot_elems, slot_elems, Finset.disjoint_map, Finset.disjoint_left]
  intro i hi hi'
  rw [mem_slotR] at hi hi'
  exact h (Prod.ext (hi.1.symm.trans hi'.1) (hi.2.symm.trans hi'.2))

/-- What a load of the three slots touches. -/
theorem three_elems (k : Bool) (l : Fin 3) : (commM k).view.setOn (threeR l).toLoadRect.set
    ⊆ (slotM k l 1).view.set ∪ ((slotM k l 2).view.set ∪ (slotM k l 3).view.set) := by
  rw [slot_elems, slot_elems, slot_elems, ← Finset.map_union, ← Finset.map_union]
  refine Finset.map_subset_map.mpr fun i hi => ?_
  rw [Finset.mem_union, Finset.mem_union, mem_slotR, mem_slotR, mem_slotR]
  have hi' : i ∈ (threeR l).set := hi
  rw [Rect.mem_set_unit] at hi'
  have h0 : l.val ≤ (i 0).val ∧ (i 0).val < l.val + 1 := hi' 0
  have h1 : 1 ≤ (i 1).val ∧ (i 1).val < 1 + 3 := hi' 1
  have e0 : i 0 = l := Fin.ext (by omega)
  have hb : (i 1).val = 1 ∨ (i 1).val = 2 ∨ (i 1).val = 3 := by omega
  rcases hb with h | h | h
  · exact .inl ⟨e0, Fin.ext h⟩
  · exact .inr (.inl ⟨e0, Fin.ext h⟩)
  · exact .inr (.inr ⟨e0, Fin.ext h⟩)

/-- The three slots' region. -/
def threeSet (k : Bool) (l : Fin 3) : Finset ((commM k).view.ty.Idx) :=
  (slotM k l 1).view.set ∪ ((slotM k l 2).view.set ∪ (slotM k l 3).view.set)

theorem three_join (k : Bool) (l : Fin 3) (c : Dev nD) (f : Buf (Elt F) ((commM k).view.loc (c : Thread nD τ))) :
    (((commM k).view.loc (c : Thread nD τ)) ↦[threeSet k l]{fullShare} f : sProp 𝕄)
      ⊣⊢ iprop(slotPts k l 1 c fullShare f ∗ slotPts k l 2 c fullShare f ∗ slotPts k l 3 c fullShare f) := by
  unfold threeSet slotPts
  refine (pointsTo_union (Finset.disjoint_union_right.mpr ⟨slots_disjoint k l l 1 2 (by simp), slots_disjoint k l l 1 3 (by simp)⟩)).trans ?_
  exact sep_congr_right (pointsTo_union (slots_disjoint k l l 2 3 (by simp)))

/-! ## The exchange -/

/-- What a device brings to its `j`-th copy and to the wait for the one that comes: its partner's slot, the two payments,
    the credit that will be waited for and its place at the semaphore. -/
def exIn (k : Bool) (l : Fin 3) (c : Dev nD) (j : Fin 3) : sProp 𝕄 :=
  iprop(freeSlot (tgt k c j.succ) (k, l, j) ∗ dutyTok ER (sendCell k l j c) 0 0 ∗ dutyTok ER (recvCell k l j (tgt k c j.succ)) 0 0
    ∗ cred (tallyAt (recvCell k l j c) () N) ∗ atPos ER (recvCell k l j c) 0 ∅ 0)

/-- What it has after the exchange: the credit for the copy's departure, its place, and its own slot filled. -/
def exOut (k : Bool) (l : Fin 3) (c : Dev nD) (j : Fin 3) : sProp 𝕄 :=
  iprop(cred (tallyAt (sendCell k l j c) () N) ∗ atPos ER (recvCell k l j c) 1 ∅ 0 ∗ slotPts k l j.succ c fullShare (held m k c))

theorem wp_exchange (k : Bool) (l : Fin 3) (c : Dev nD) (r : ℕ) (hr : 2 * l.val + k.toNat + r ≤ 5) (n₀ n₁ n₂ : Dev nD)
    (hn₀ : n₀ = tgt k c (Fin.succ 0)) (hn₁ : n₁ = tgt k c (Fin.succ 1)) (hn₂ : n₂ = tgt k c (Fin.succ 2))
    {hsc₀ : (slotM k l (Fin.succ 0) : Memref sig (Dev.tc n₀ : Thread nD τ).2.kind .vmem S128x128 .bf16).view.ref.isScScratch = false}
    {hsc₁ : (slotM k l (Fin.succ 1) : Memref sig (Dev.tc n₁ : Thread nD τ).2.kind .vmem S128x128 .bf16).view.ref.isScScratch = false}
    {hsc₂ : (slotM k l (Fin.succ 2) : Memref sig (Dev.tc n₂ : Thread nD τ).2.kind .vmem S128x128 .bf16).view.ref.isScScratch = false}
    {hs₀ hs₁ hs₂ : (slotM k l 0).view.WordExact} {hd₀ : (slotM k l (Fin.succ 0)).view.WordExact}
    {hd₁ : (slotM k l (Fin.succ 1)).view.WordExact} {hd₂ : (slotM k l (Fin.succ 2)).view.WordExact}
    {ht₀ : DmaTarget.Typed .vmem (.dma (recvS k l 0)) (.remote (Dev.tc n₀ : Thread nD τ) (slotM k l (Fin.succ 0)) (.dma (sendS k l 0)) hsc₀)}
    {ht₁ : DmaTarget.Typed .vmem (.dma (recvS k l 1)) (.remote (Dev.tc n₁ : Thread nD τ) (slotM k l (Fin.succ 1)) (.dma (sendS k l 1)) hsc₁)}
    {ht₂ : DmaTarget.Typed .vmem (.dma (recvS k l 2)) (.remote (Dev.tc n₂ : Thread nD τ) (slotM k l (Fin.succ 2)) (.dma (sendS k l 2)) hsc₂)}
    {hw₀ hw₁ hw₂ : (slotM k l 0).view.WordExact} {hv₀ : (slotM k l (Fin.succ 0)).view.WordExact}
    {hv₁ : (slotM k l (Fin.succ 1)).view.WordExact} {hv₂ : (slotM k l (Fin.succ 2)).view.WordExact}
    {hl : (commM k).view.LoadsAt (threeR l).toLoadRect}
    {α : Type} {Q : α → sProp 𝕄} {kk : Vec F S1x3x128x128 .bf16 → Prog (TpuEff nD τ sig (Elt F) Λ₀ .tc) α} :
    iprop(records m K ∗ slotPts k l 0 c fullShare (held m k c) ∗ debt c (triOwed k l c (owedLeft c r)) ∗ bigSep Finset.univ (exIn k l c))
      ⊢ iprop(((debt c (owedLeft c r) ∗ bigSep Finset.univ (exOut m k l c))
            -∗ wp frame (wpE (defs₀ (F := F)) 𝒱₀ (c : Thread nD τ) none) Set.univ (kk (three k c (val m k l))) Q)
          -∗ wp frame (wpE (defs₀ (F := F)) 𝒱₀ (c : Thread nD τ) none) Set.univ
            (.op (.enqueueDma (slotM k l 0) (.remote (Dev.tc n₀ : Thread nD τ) (slotM k l (Fin.succ 0)) (.dma (sendS k l 0)) hsc₀) (.dma (recvS k l 0)) hs₀ hd₀ ht₀) fun _ =>
            .op (.enqueueDma (slotM k l 0) (.remote (Dev.tc n₁ : Thread nD τ) (slotM k l (Fin.succ 1)) (.dma (sendS k l 1)) hsc₁) (.dma (recvS k l 1)) hs₁ hd₁ ht₁) fun _ =>
            .op (.enqueueDma (slotM k l 0) (.remote (Dev.tc n₂ : Thread nD τ) (slotM k l (Fin.succ 2)) (.dma (sendS k l 2)) hsc₂) (.dma (recvS k l 2)) hs₂ hd₂ ht₂) fun _ =>
            .op (.waitDma2 (recvS k l 0) (slotM k l 0) (slotM k l (Fin.succ 0)) hw₀ hv₀) fun _ =>
            .op (.waitDma2 (recvS k l 1) (slotM k l 0) (slotM k l (Fin.succ 1)) hw₁ hv₁) fun _ =>
            .op (.waitDma2 (recvS k l 2) (slotM k l 0) (slotM k l (Fin.succ 2)) hw₂ hv₂) fun _ =>
            .op (.load (commM k) (threeR l).toLoadRect hl) kk) Q) := by
  have hthird : (slotPts k l 0 c fullShare (held m k c) : sProp 𝕄) ⊢ iprop(slotPts k l 0 c (shares3 fullShare 0) (held m k c)
      ∗ slotPts k l 0 c (shares3 fullShare 1) (held m k c) ∗ slotPts k l 0 c (shares3 fullShare 2) (held m k c)) := (pointsTo_thirds _ _).1
  rw [bigSep_three, bigSep_three]
  unfold exIn exOut triOwed
  iintro ⟨#HR, Hs, HO, ⟨Hf0, Hts0, Htr0, Hc0, Ha0⟩, ⟨Hf1, Hts1, Htr1, Hc1, Ha1⟩, ⟨Hf2, Hts2, Htr2, Hc2, Ha2⟩⟩ Hk
  ihave Hs' := hthird $$ Hs
  icases Hs' with ⟨Hs0, Hs1, Hs2⟩
  iapply (wp_send_slot m K k l 0 c n₀ hn₀ _) $$ [Hs0 Hf0 HO Hts0 Htr0]
  · isplitr; · iexact HR
    isplitl [Hs0]; · iexact Hs0
    isplitl [Hf0]; · iexact Hf0
    isplitl [HO]; · iexact HO
    isplitl [Hts0] <;> iassumption
  iintro ⟨Hd0, HO⟩
  iapply (wp_send_slot m K k l 1 c n₁ hn₁ _) $$ [Hs1 Hf1 HO Hts1 Htr1]
  · isplitr; · iexact HR
    isplitl [Hs1]; · iexact Hs1
    isplitl [Hf1]; · iexact Hf1
    isplitl [HO]; · iexact HO
    isplitl [Hts1] <;> iassumption
  iintro ⟨Hd1, HO⟩
  iapply (wp_send_slot m K k l 2 c n₂ hn₂ _) $$ [Hs2 Hf2 HO Hts2 Htr2]
  · isplitr; · iexact HR
    isplitl [Hs2]; · iexact Hs2
    isplitl [Hf2]; · iexact Hf2
    isplitl [HO]; · iexact HO
    isplitl [Hts2] <;> iassumption
  iintro ⟨Hd2, HO⟩
  iapply (wp_recv_slot m K k l 0 c r hr (slot_credit k l (Fin.succ 0))) $$ [HO Hc0 Ha0]
  · isplitr; · iexact HR
    isplitl [HO]; · iexact HO
    isplitl [Hc0] <;> iassumption
  iintro ⟨HO, Ha0, Hp0⟩
  iapply (wp_recv_slot m K k l 1 c r hr (slot_credit k l (Fin.succ 1))) $$ [HO Hc1 Ha1]
  · isplitr; · iexact HR
    isplitl [HO]; · iexact HO
    isplitl [Hc1] <;> iassumption
  iintro ⟨HO, Ha1, Hp1⟩
  iapply (wp_recv_slot m K k l 2 c r hr (slot_credit k l (Fin.succ 2))) $$ [HO Hc2 Ha2]
  · isplitr; · iexact HR
    isplitl [HO]; · iexact HO
    isplitl [Hc2] <;> iassumption
  iintro ⟨HO, Ha2, Hp2⟩
  ihave Hp := (three_join k l c (held m k c)).2 $$ [Hp0 Hp1 Hp2]
  · isplitl [Hp0]; · iexact Hp0
    isplitl [Hp1]; · iexact Hp1
    iexact Hp2
  iapply (wp_load 𝒱₀ (c : Thread nD τ) none Set.univ (m := commM k) (S := threeSet k l) (three_elems k l)) $$ Hp
  iintro Hp
  ihave Hp' := (three_join k l c (held m k c)).1 $$ Hp
  icases Hp' with ⟨Hp0, Hp1, Hp2⟩
  rw [three_read]
  iapply Hk
  isplitl [HO]; · iexact HO
  isplitl [Hd0 Ha0 Hp0]
  · isplitl [Hd0]; · iexact Hd0
    isplitl [Ha0]; · iexact Ha0
    iexact Hp0
  isplitl [Hd1 Ha1 Hp1]
  · isplitl [Hd1]; · iexact Hd1
    isplitl [Ha1]; · iexact Ha1
    iexact Hp1
  isplitl [Hd2]; · iexact Hd2
  isplitl [Ha2]; · iexact Ha2
  iexact Hp2

/-! ## The copies of an exchange have left -/

theorem wp_left (k : Bool) (l : Fin 3) (c : Dev nD) {s₀ s₁ s₂ d₀ d₁ d₂ : Memref sig .tc .vmem S128x128 .bf16}
    (e₀ : d₀.view.dmaCredit = N) (e₁ : d₁.view.dmaCredit = N) (e₂ : d₂.view.dmaCredit = N)
    {hs₀ : s₀.view.WordExact} {hs₁ : s₁.view.WordExact} {hs₂ : s₂.view.WordExact}
    {hd₀ : d₀.view.WordExact} {hd₁ : d₁.view.WordExact} {hd₂ : d₂.view.WordExact}
    {α : Type} {Q : α → sProp 𝕄} {kk : PUnit → Prog (TpuEff nD τ sig (Elt F) Λ₀ .tc) α} :
    iprop(records m K ∗ debt c 0 ∗ (bigSep Finset.univ fun j => cred (tallyAt (sendCell k l j c) () N))
        ∗ bigSep Finset.univ fun j => atPos ER (sendCell k l j c) 0 ∅ 0)
      ⊢ iprop(((debt c 0 ∗ (bigSep Finset.univ fun j => atPos ER (sendCell k l j c) 1 ∅ 0) ∗ slotPts k l 0 c fullShare (held m k c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (sendS k l 0) s₀ d₀ hs₀ hd₀) fun _ => .op (.waitDma2 (sendS k l 1) s₁ d₁ hs₁ hd₁) fun _ =>
            .op (.waitDma2 (sendS k l 2) s₂ d₂ hs₂ hd₂) kk) Q) := by
  have hwhole : iprop(slotPts k l 0 c (shares3 fullShare 0) (held m k c)
      ∗ slotPts k l 0 c (shares3 fullShare 1) (held m k c) ∗ slotPts k l 0 c (shares3 fullShare 2) (held m k c))
      ⊢ (slotPts k l 0 c fullShare (held m k c) : sProp 𝕄) := (pointsTo_thirds _ _).2
  rw [bigSep_three, bigSep_three, bigSep_three]
  iintro ⟨#HR, HO, ⟨Hc0, Hc1, Hc2⟩, ⟨Ha0, Ha1, Ha2⟩⟩ Hk
  iapply (wp_left_slot m K k l 0 c e₀) $$ [HO Hc0 Ha0]
  · isplitr; · iexact HR
    isplitl [HO]; · iexact HO
    isplitl [Hc0] <;> iassumption
  iintro ⟨HO, Ha0, Hp0⟩
  iapply (wp_left_slot m K k l 1 c e₁) $$ [HO Hc1 Ha1]
  · isplitr; · iexact HR
    isplitl [HO]; · iexact HO
    isplitl [Hc1] <;> iassumption
  iintro ⟨HO, Ha1, Hp1⟩
  iapply (wp_left_slot m K k l 2 c e₂) $$ [HO Hc2 Ha2]
  · isplitr; · iexact HR
    isplitl [HO]; · iexact HO
    isplitl [Hc2] <;> iassumption
  iintro ⟨HO, Ha2, Hp2⟩
  iapply Hk
  isplitl [HO]; · iexact HO
  isplitl [Ha0 Ha1 Ha2]
  · isplitl [Ha0]; · iexact Ha0
    isplitl [Ha1] <;> iassumption
  iapply hwhole
  isplitl [Hp0]; · iexact Hp0
  isplitl [Hp1] <;> iassumption

end Cert.Swap

end
-- ==== Proof.Swap.Groups.lean ====
/-
# The same things, grouped differently

A device's copies exchange by exchange; its semaphores by the part they play; its two buffers slot by slot. All are
equalities between separating conjunctions, so they are read in either direction.
-/
module

public import proofs.«01_k».proof.Proof.Swap.Exchange

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Lists
variable {M : Type} [URA M]

theorem bigSep_bool (Φ : Bool → sProp M) : bigSep Finset.univ Φ = iprop(Φ false ∗ Φ true) := by
  rw [bigSep_univ_eq_bigSepL [false, true] (by decide) (by decide), bigSepL_cons_cons, bigSepL_singleton]; rfl

/-- The slot of one's own block, and the three others. -/
theorem bigSep_slots (Φ : Fin 4 → sProp M) : bigSep Finset.univ Φ = iprop(Φ 0 ∗ bigSep Finset.univ fun j : Fin 3 => Φ j.succ) := by
  rw [bigSep_univ_eq_bigSepL [0, 1, 2, 3] (by decide) (by decide), bigSep_univ_eq_bigSepL [0, 1, 2] (by decide) (by decide),
    bigSepL_cons_cons, bigSepL_cons_cons, bigSepL_cons_cons, bigSepL_cons_cons, bigSepL_cons_cons, bigSepL_singleton, bigSepL_singleton]
  rfl

/-- The six exchanges in their order. -/
theorem bigSep_six (Φ : Bool × Fin 3 → sProp M) : bigSep Finset.univ Φ
    = iprop(Φ (false, 0) ∗ Φ (true, 0) ∗ Φ (false, 1) ∗ Φ (true, 1) ∗ Φ (false, 2) ∗ Φ (true, 2)) := by
  rw [bigSep_univ_eq_bigSepL [(false, 0), (true, 0), (false, 1), (true, 1), (false, 2), (true, 2)] (by decide) (by decide),
    bigSepL_cons_cons, bigSepL_cons_cons, bigSepL_cons_cons, bigSepL_cons_cons, bigSepL_cons_cons, bigSepL_singleton]
  rfl

/-- The copies, exchange by exchange. -/
theorem by_exchange (Φ : Copy → sProp M) : bigSep Finset.univ Φ
    = bigSep Finset.univ fun y : Bool × Fin 3 => bigSep Finset.univ fun j : Fin 3 => Φ (y.1, y.2, j) := by
  rw [bigSep_univ_equiv (Equiv.prodAssoc Bool (Fin 3) (Fin 3)) Φ, bigSep_univ_prod]
  rfl

/-- The barrier's semaphore, and a device's own. -/
theorem bigSep_option (Φ : Option Own → sProp M) : bigSep Finset.univ Φ = iprop(Φ none ∗ bigSep Finset.univ fun x : Own => Φ (some x)) := by
  rw [bigSep_univ_equiv (Equiv.optionEquivSumPUnit.{0} Own).symm Φ, bigSep_univ_sum]
  have h : (bigSep Finset.univ fun b : PUnit.{1} => Φ ((Equiv.optionEquivSumPUnit.{0} Own).symm (Sum.inr b))) = Φ none :=
    bigSep_singleton (Φ := fun b : PUnit.{1} => Φ ((Equiv.optionEquivSumPUnit.{0} Own).symm (Sum.inr b))) (i := PUnit.unit)
  rw [h]
  exact Entails.antisymm BI.sep_comm BI.sep_comm

/-- A device's own semaphores: those of distance `0`, those copies leave by, those copies arrive on. -/
theorem own_split (Φ : Own → sProp M) : bigSep Finset.univ Φ
    = iprop((bigSep Finset.univ fun y : Bool × Bool × Fin 3 => Φ (y.1, y.2.1, y.2.2, 0))
        ∗ (bigSep Finset.univ fun x : Copy => Φ (false, x.1, x.2.1, x.2.2.succ))
        ∗ bigSep Finset.univ fun x : Copy => Φ (true, x.1, x.2.1, x.2.2.succ)) := by
  rw [← bigSep_bool fun d => bigSep Finset.univ fun x : Copy => Φ (d, x.1, x.2.1, x.2.2.succ)]
  simp only [bigSep_univ_prod, bigSep_slots, bigSep_sep']

end Lists

/-! ## The buffers, slot by slot -/

/-- A slot's elements, as elements of the buffer. -/
abbrev slotSet (k : Bool) (y : Fin 3 × Fin 4) : Finset ((commM k).view.ty.Idx) := (slotM k y.1 y.2).view.set

/-- Every element of a buffer lies in one slot. -/
theorem slots_cover (k : Bool) : Finset.univ.biUnion (slotSet k) = Finset.univ := by
  refine Finset.eq_univ_iff_forall.2 fun i => Finset.mem_biUnion.2 ?_
  have hw : (commM k).view.set = Finset.univ := by cases k <;> exact View.set_whole _
  have hi : i ∈ (commM k).view.set := hw ▸ Finset.mem_univ i
  obtain ⟨y, -, rfl⟩ := Finset.mem_map.1 hi
  have hy : (commM k).view.emb y ∈ (slotR (y 0) (y 1)).set.map (commM k).view.emb :=
    Finset.mem_map_of_mem _ ((mem_slotR _ _ _).2 ⟨rfl, rfl⟩)
  exact ⟨((y 0 : Fin 3), (y 1 : Fin 4)), Finset.mem_univ _, by rw [slotSet, slot_elems]; exact hy⟩

/-- Device `c`'s buffer of exchange `k`. -/
abbrev bufLoc (k : Bool) (c : Dev nD) : Loc nD τ sig := (commM k).view.loc (c : Thread nD τ)

omit [FloatOps F] in
theorem buffer_slots (k : Bool) (c : Dev nD) (f : Buf (Elt F) (bufLoc k c)) : ((bufLoc k c ↦{fullShare} f) : sProp 𝕄)
    = bigSep Finset.univ fun y : Fin 3 × Fin 4 => slotPts k y.1 y.2 c fullShare f := by
  have h := pointsTo_biUnion (ℓ := bufLoc k c) (q := fullShare) (f := f) (Ix := Unit) (Name := ℕ) (U := UU) (Lvl := ℕ) Finset.univ (slotSet k)
    fun y _ y' _ h => slots_disjoint k _ _ _ _ h
  rw [slots_cover] at h
  exact h

omit [FloatOps F] in
/-- Both buffers: the slots of one's own blocks, and those the copies fill. -/
theorem buffers_slots (c : Dev nD) (f : (k : Bool) → Buf (Elt F) (bufLoc k c)) :
    (iprop((bufLoc false c ↦{fullShare} f false) ∗ (bufLoc true c ↦{fullShare} f true)) : sProp 𝕄)
      = iprop((bigSep Finset.univ fun y : Bool × Fin 3 => slotPts y.1 y.2 0 c fullShare (f y.1))
          ∗ bigSep Finset.univ fun x : Copy => slotPts x.1 x.2.1 x.2.2.succ c fullShare (f x.1)) := by
  rw [← bigSep_bool fun k => (bufLoc k c ↦{fullShare} f k : sProp 𝕄)]
  simp only [buffer_slots, bigSep_univ_prod, bigSep_slots, bigSep_sep']

end Cert.Swap

end
-- ==== Proof.Swap.Body.lean ====
/-
# The run of a device

The kernel's body once, at a device `c`: fifteen signals, the barrier, six exchanges with the products between them, and
the waits for the copies to have left. It starts from what a device holds at launch and ends with the output written, all
its semaphores at zero and its buffers its own again.
-/
module

public import proofs.«01_k».proof.Proof.Swap.Groups

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × Option Own → ℕ)

/-! ## What a device starts from -/

/-- The payments it will make: to the fifteen barriers, and for its copies' departures and arrivals. -/
def payToks (c : Dev nD) : sProp 𝕄 :=
  iprop((bigSep Finset.univ fun i : Fin 15 => dutyTok ER (barCell (fwd c i)) 0 i)
    ∗ (bigSep Finset.univ fun x : Copy => dutyTok ER (sendCell x.1 x.2.1 x.2.2 c) 0 0)
    ∗ bigSep Finset.univ fun x : Copy => dutyTok ER (recvCell x.1 x.2.1 x.2.2 (tgt x.1 c x.2.2.succ)) 0 0)

/-- Its place at every semaphore of its own, and its payments. -/
def linear (c : Dev nD) : sProp 𝕄 :=
  iprop((bigSep Finset.univ fun y : Option Own => atPos ER (kcell (c, y)) 0 ∅ 0) ∗ payToks c)

/-- What the others owe it. -/
def creds (c : Dev nD) : sProp 𝕄 :=
  iprop(cred (tallyAt (barCell c) () 15) ∗ bigSep Finset.univ fun x : Copy => cred (tallyAt (recvCell x.1 x.2.1 x.2.2 c) () N))

/-- Its two exchange buffers, contents arbitrary. -/
def buffers (c : Dev nD) : sProp 𝕄 := iprop((∃ f, bufLoc false c ↦{fullShare} f) ∗ (∃ f, bufLoc true c ↦{fullShare} f))

/-- The seven staged inputs. -/
def inputs (c : Dev nD) : sProp 𝕄 :=
  iprop((((c : Thread nD τ).loc cc0_stg0_0) ↦{fullShare} xIn m c) ∗ (((c : Thread nD τ).loc cc0_stg1_0) ↦{fullShare} wi0 m c)
    ∗ (((c : Thread nD τ).loc cc0_stg2_0) ↦{fullShare} wo0 m c) ∗ (((c : Thread nD τ).loc cc0_stg3_0) ↦{fullShare} wi1 m c)
    ∗ (((c : Thread nD τ).loc cc0_stg4_0) ↦{fullShare} wo1 m c) ∗ (((c : Thread nD τ).loc cc0_stg5_0) ↦{fullShare} wi2 m c)
    ∗ (((c : Thread nD τ).loc cc0_stg6_0) ↦{fullShare} wo2 m c))

/-- What it holds when it has run: its buffers, and its semaphores at zero. -/
def quiet (c : Dev nD) : sProp 𝕄 :=
  iprop(buffers c ∗ (bigSep Finset.univ fun x : Own => semVal (kcell (c, some x)) 0) ∗ semVal (barCell c) 0)

/-! ## The signals -/

/-- The last `r` signals, then `k`. -/
def signals (c : Dev nD) {α : Type} (k : Prog (TpuEff nD τ sig (Elt F) Λ₀ .tc) α) : ℕ → Prog (TpuEff nD τ sig (Elt F) Λ₀ .tc) α
  | 0 => k
  | r + 1 => .op (.semSignal ((fwd c (sigNo r) : Dev nD) : Thread nD τ) barS (1#32).toInt) fun _ => signals c k r

theorem wp_signals (c : Dev nD) {α : Type} {Q : α → sProp 𝕄} {k : Prog (TpuEff nD τ sig (Elt F) Λ₀ .tc) α} :
    ∀ r, r ≤ 15 → iprop(records m K ∗ debt c (owedSig c r) ∗ toSignal c r)
      ⊢ iprop((debt c (owedLeft c 6) -∗ wp frame (wpE (defs₀ (F := F)) 𝒱₀ (c : Thread nD τ) none) Set.univ k Q)
          -∗ wp frame (wpE (defs₀ (F := F)) 𝒱₀ (c : Thread nD τ) none) Set.univ (signals c k r) Q)
  | 0, _ => by
    unfold signals owedSig
    iintro ⟨-, HO, -⟩ Hk
    iapply Hk $$ HO
  | r + 1, h => by
    have ih := wp_signals (Q := Q) c (k := k) r (Nat.le_of_succ_le h)
    unfold signals
    iintro ⟨#HR, HO, HT⟩ Hk
    iapply (wp_sig m K c r h) $$ [HO HT]
    · isplitr; · iexact HR
      isplitl [HO] <;> iassumption
    iintro ⟨HO, HT⟩
    iapply ih $$ [HO HT]
    · isplitr; · iexact HR
      isplitl [HO] <;> iassumption
    iexact Hk

/-! ## Before the signals, and after the waits -/

omit [FloatOps F] in
/-- The buffers come apart: slot `0` of every layer stays, the rest goes out with the signals. -/
theorem buffers_open (c : Dev nD) : buffers (F := F) c ⊢ iprop((bigSep Finset.univ fun y : Bool × Fin 3 => iprop(∃ f, slotPts y.1 y.2 0 c fullShare f))
    ∗ bigSep Finset.univ fun i => barPay (fwd c i) i) := by
  unfold buffers
  iintro ⟨⟨%f, Hf⟩, ⟨%g, Hg⟩⟩
  let h : (k : Bool) → Buf (Elt F) (bufLoc k c) := fun | false => f | true => g
  have e := Entails.of_eq (buffers_slots c h)
  ihave H := e $$ [Hf Hg]
  · isplitl [Hf]; · iexact Hf
    iexact Hg
  icases H with ⟨H0, H1⟩
  isplitl [H0]
  · have e0 : (bigSep Finset.univ fun y : Bool × Fin 3 => (slotPts y.1 y.2 0 c fullShare (h y.1) : sProp 𝕄))
        ⊢ bigSep Finset.univ fun y : Bool × Fin 3 => iprop(∃ f, slotPts y.1 y.2 0 c fullShare f) :=
      bigSep_mono fun y _ => by
        show (slotPts y.1 y.2 0 c fullShare (h y.1) : sProp 𝕄) ⊢ iprop(∃ f, slotPts y.1 y.2 0 c fullShare f)
        iintro H; iexists _; iexact H
    iapply e0 $$ H0
  · have e1 : (bigSep Finset.univ fun x : Copy => (slotPts x.1 x.2.1 x.2.2.succ c fullShare (h x.1) : sProp 𝕄))
        ⊢ bigSep Finset.univ fun i => barPay (fwd c i) i := by
      rw [← offers]
      refine bigSep_mono fun x _ => ?_
      show (slotPts x.1 x.2.1 x.2.2.succ c fullShare (h x.1) : sProp 𝕄) ⊢ iprop(∃ f, slotPts x.1 x.2.1 x.2.2.succ c fullShare f)
      iintro H; iexists _; iexact H
    iapply e1 $$ H1

/-- And together again. -/
theorem buffers_close (c : Dev nD) : iprop((bigSep Finset.univ fun y : Bool × Fin 3 => slotPts y.1 y.2 0 c fullShare (held m y.1 c))
    ∗ bigSep Finset.univ fun x : Copy => slotPts x.1 x.2.1 x.2.2.succ c fullShare (held m x.1 c)) ⊢ (buffers c : sProp 𝕄) := by
  have e := Entails.of_eq (buffers_slots c fun k => held m k c).symm
  refine e.trans ?_
  unfold buffers
  iintro ⟨H0, H1⟩
  isplitl [H0]
  · iexists _; iexact H0
  · iexists _; iexact H1

omit [FloatOps F] in
/-- What the barrier brought and what the device had, exchange by exchange. -/
theorem exchanges_open (c : Dev nD) : iprop((bigSep Finset.univ fun x : Copy => freeSlot (tgt x.1 c x.2.2.succ) x)
      ∗ (bigSep Finset.univ fun x : Copy => dutyTok ER (sendCell x.1 x.2.1 x.2.2 c) 0 0)
      ∗ (bigSep Finset.univ fun x : Copy => dutyTok ER (recvCell x.1 x.2.1 x.2.2 (tgt x.1 c x.2.2.succ)) 0 0)
      ∗ (bigSep Finset.univ fun x : Copy => cred (tallyAt (recvCell x.1 x.2.1 x.2.2 c) () N))
      ∗ bigSep Finset.univ fun x : Copy => atPos ER (recvCell x.1 x.2.1 x.2.2 c) 0 ∅ 0)
    ⊢ (bigSep Finset.univ fun y : Bool × Fin 3 => bigSep Finset.univ (exIn y.1 y.2 c) : sProp 𝕄) := by
  rw [← bigSep_sep', ← bigSep_sep', ← bigSep_sep', ← bigSep_sep', by_exchange]
  exact BI.Entails.refl _

/-- What an exchange leaves, kind by kind. -/
theorem exOut_split (k : Bool) (l : Fin 3) (c : Dev nD) : bigSep Finset.univ (exOut m k l c)
    ⊢ iprop((bigSep Finset.univ fun j : Fin 3 => cred (tallyAt (sendCell k l j c) () N))
      ∗ (bigSep Finset.univ fun j : Fin 3 => atPos ER (recvCell k l j c) 1 ∅ 0)
      ∗ bigSep Finset.univ fun j : Fin 3 => slotPts k l j.succ c fullShare (held m k c)) := by
  unfold exOut
  rw [bigSep_sep', bigSep_sep']

/-- The round of a semaphore when the device has run: those of distance `0` were never used. -/
def lastRound (x : Own) : ℕ := if x.2.2.2 = 0 then 0 else 1

omit [FloatOps F] in
theorem with_records {I : Type} {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  classical
  exact (sep_mono_left (BI.bigSep_of_persistent S R)).trans (by rw [← bigSep_sep']; exact bigSep_mono h)

theorem own_close (c : Dev nD) : iprop(records m K ∗ bigSep Finset.univ fun x : Own => atPos ER (kcell (c, some x)) (lastRound x) ∅ 0)
    ⊢ iprop(|={Set.univ}=> bigSep Finset.univ fun x : Own => semVal (kcell (c, some x)) 0) := by
  refine (with_records (Ψ := fun x : Own => iprop(|={Set.univ}=> semVal (kcell (c, some x)) 0)) fun x _ => ?_).trans (bigSep_fupd _ _)
  have hR : ∀ r, lastRound x ≤ r → (Rd (F := F) m).duties (kcell (c, some x)) r = ∅ := by
    obtain ⟨d, k, l, o⟩ := x
    intro r hr
    by_cases ho : o = 0
    · subst ho; exact duties_idle m c _ (role_idle d k l) r
    · exact duties_later m _ r (by unfold lastRound at hr; rwa [if_neg ho] at hr)
  iintro ⟨#HR, Ha⟩
  iapply (Rounds.cell_close ER (Rd m) (Set.mem_univ (K (c, some x))) (fun h => h) (R := lastRound x) hR)
  isplitr; · iapply (inv_at m K (c, some x)); iexact HR
  iexact Ha

/-- All of a device's semaphores are done with: their counts at zero come back. -/
theorem close_all (c : Dev nD) : iprop(records m K ∗ (bigSep Finset.univ fun y : Bool × Bool × Fin 3 => atPos ER (dmaCell y.1 y.2.1 y.2.2 0 c) 0 ∅ 0)
      ∗ (bigSep Finset.univ fun x : Copy => atPos ER (sendCell x.1 x.2.1 x.2.2 c) 1 ∅ 0)
      ∗ (bigSep Finset.univ fun x : Copy => atPos ER (recvCell x.1 x.2.1 x.2.2 c) 1 ∅ 0)
      ∗ atPos ER (barCell c) 1 ∅ 0)
    ⊢ iprop(|={Set.univ}=> ((bigSep Finset.univ fun x : Own => semVal (kcell (c, some x)) 0) ∗ semVal (barCell c) 0)) := by
  have e := Entails.of_eq (own_split fun x : Own => (atPos ER (kcell (c, some x)) (lastRound x) ∅ 0 : sProp 𝕄)).symm
  iintro ⟨#HR, H0, H1, H2, HB⟩
  ihave H := e $$ [H0 H1 H2]
  · isplitl [H0]; · iexact H0
    isplitl [H1]; · iexact H1
    iexact H2
  imod (own_close m K c) $$ [H] with Hz
  · isplitr; · iexact HR
    iexact H
  imod (Rounds.cell_close ER (Rd m) (Set.mem_univ (K (c, none))) (fun h => h) (R := 1) (duties_later m (barCell c))) $$ [HB] with Hb
  · isplitr; · iapply (inv_at m K (c, none)); iexact HR
    iexact HB
  imodintro
  isplitl [Hz] <;> iassumption

end Cert.Swap

end
-- ==== Proof.Swap.Run.lean ====
/-
# The run of a device

The kernel's body once, at a device `c`: fifteen signals, the barrier, six exchanges with the products between them, and
the waits for the copies to have left.
-/
module

public import proofs.«01_k».proof.Proof.Swap.Body

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × Option Own → ℕ)

/-! ## Loads and stores of a whole buffer -/

/-- A load, its value named. -/
theorem wp_load_as (c : Dev nD) {sp : CoreSpace} {s : Shape} {e : EltTy} {M : Memref sig .tc sp s e} {r : LoadRect s} {hl : M.view.LoadsAt r}
    {f : Buf (Elt F) (M.view.loc (c : Thread nD τ))} {v : r.shape.Idx → Elt F e} (hv : M.view.readAt (Elt F) r f = v)
    {α : Type} {Q : α → sProp 𝕄} {kk : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (kk v) Q)
          -∗ wp frame (wpE (defs₀ (F := F)) 𝒱₀ (c : Thread nD τ) none) Set.univ (.op (.load M r hl) kk) Q) := by
  subst hv
  exact wp_load 𝒱₀ (c : Thread nD τ) none Set.univ (Finset.subset_univ _)

/-- A load whose value is dropped, then a store that covers the buffer. -/
theorem wp_store_as (c : Dev nD) {sp : CoreSpace} {s : Shape} {e : EltTy} {M : Memref sig .tc sp s e} {r : Rect s} {hl : M.view.LoadsAt r.toLoadRect}
    {f : Buf (Elt F) (M.view.loc (c : Thread nD τ))} {g : Buf (Elt F) (M.view.loc (c : Thread nD τ))} {w : r.shape.Idx → Elt F e}
    {hx : (M.access r).Stores Finset.univ} {hm : (Finset.univ : Finset r.shape.Idx) = Finset.univ ∨ ∀ a, r.stride a = 1}
    (hg : (M.access r).write (Elt F) f w Finset.univ = g)
    {α : Type} {Q : α → sProp 𝕄} {kk : PUnit → Prog (TpuEff nD τ sig (Elt F) Λ₀ .tc) α} :
    (M.view.loc (c : Thread nD τ) ↦{fullShare} f : sProp 𝕄)
      ⊢ iprop(((M.view.loc (c : Thread nD τ) ↦{fullShare} g) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load M r.toLoadRect hl) fun _ => .op (.store M r w Finset.univ hx hm) kk) Q) := by
  subst hg
  iintro H Hk
  iapply (wp_load 𝒱₀ (c : Thread nD τ) none Set.univ (m := M) (Finset.subset_univ _)) $$ H
  iintro H
  iapply (wp_store 𝒱₀ (c : Thread nD τ) none Set.univ (m := M) (r := r) (f := f) (S := Finset.univ) (Mk := Finset.univ) (Finset.subset_univ _)) $$ H
  iexact Hk

theorem hz : (![0, 0] : Fin 2 → ℕ) = fun _ => 0 := funext fun a => by fin_cases a <;> rfl

/-! ## The body -/

/-- The body as the launch calls it. -/
def kbody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    cc0_scratch2 cc0_scratch3 cc0_scratch4 cc0_scratch5

/-- What a device has at the end of its body. -/
def bodyEnd (c : Dev nD) : sProp 𝕄 :=
  iprop(quiet c ∗ debt c 0 ∗ inputs m c ∗ (((c : Thread nD τ).loc cc0_stg7_0) ↦{fullShare} outVal m c))

set_option maxHeartbeats 1000000 in
theorem sound_body (c : Dev nD) (d : Vec F S128x128 .f32) (Kt : PUnit → sProp 𝕄) :
    iprop((records m K ∗ linear c ∗ creds c ∗ buffers c ∗ debt c (O₀ c) ∗ inputs m c ∗ (((c : Thread nD τ).loc cc0_stg7_0) ↦{fullShare} d))
        ∗ (bodyEnd m c -∗ Kt ⟨⟩))
      ⊢ wp frame (wpE (defs₀ (F := F)) 𝒱₀ (c : Thread nD τ) none) Set.univ (kbody (F := F)) Kt := by
  unfold kbody
  rw [cc0_body_eq_skeleton]; unfold cc0_body_skel
  rw [k0_part37_eq_skeleton]; unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel
  simp only [semSignalWord, semWaitWord, Prog.lift, Prog.bind_op, Prog.bind_ret, Prog.pure_eq_ret, wp_deviceId]
  simp only [dev1 c, dev2 c, dev3 c, dev4 c, dev5 c, dev6 c, dev7 c, dev8 c, dev9 c, dev10 c, dev11 c, dev12 c, dev13 c, dev14 c, dev15 c]
  unfold linear payToks creds inputs
  iintro ⟨⟨#HR, ⟨Hpos, Htb, Hts, Htr⟩, ⟨Hcb, Hcr⟩, Hbuf, HO, ⟨Hx, Hi0, Ho0, Hi1, Ho1, Hi2, Ho2⟩, Hout⟩, Hend⟩
  -- the positions, kind by kind
  have epos := Entails.of_eq (bigSep_option fun y : Option Own => (atPos ER (kcell (c, y)) 0 ∅ 0 : sProp 𝕄))
  ihave Hpos := epos $$ Hpos
  icases Hpos with ⟨Hpb, Hpos⟩
  have eown := Entails.of_eq (own_split fun x : Own => (atPos ER (kcell (c, some x)) 0 ∅ 0 : sProp 𝕄))
  ihave Hpos := eown $$ Hpos
  icases Hpos with ⟨Hidle, Hps, Hpr⟩
  -- the buffers apart, and the signals
  ihave Hbuf := (buffers_open c) $$ Hbuf
  icases Hbuf with ⟨Hslots, Hpay⟩
  have esig : iprop((bigSep Finset.univ fun i : Fin 15 => dutyTok ER (barCell (fwd c i)) 0 i) ∗ (bigSep Finset.univ fun i => barPay (fwd c i) i))
      ⊢ (toSignal c 15 : sProp 𝕄) := by
    unfold toSignal; rw [rest_all, bigSep_sep']
  ihave HT := esig $$ [Htb Hpay]
  · isplitl [Htb] <;> iassumption
  iapply (wp_signals m K c 15 (le_refl _)) $$ [HO HT]
  · isplitr; · iexact HR
    isplitl [HO]; · iexact HO
    iexact HT
  iintro HO
  have eslots := Entails.of_eq (bigSep_six fun y : Bool × Fin 3 => (iprop(∃ f, slotPts y.1 y.2 0 c fullShare f) : sProp 𝕄))
  ihave Hslots := eslots $$ Hslots
  icases Hslots with ⟨Hz0, Hp0, Hz1, Hp1, Hz2, Hp2⟩
  -- the first product, and the barrier
  iapply (wp_load_as c (Memref.readAt_unit_zero (Elt F) cc0_stg0_0 hz _ _)) $$ Hx
  iintro Hx
  iapply (wp_load_as c (Memref.readAt_unit_zero (Elt F) cc0_stg1_0 hz _ _)) $$ Hi0
  iintro Hi0
  iapply (wp_load_as c (Memref.readAt_unit_zero (Elt F) cc0_stg2_0 hz _ _)) $$ Ho0
  iintro Ho0
  iapply (wp_put m false 0 c _ shapeCasts_S128x128_S1x1x128x128 rfl) $$ Hz0
  iintro Hz0
  iapply (wp_bar m K c) $$ [HO Hcb Hpb]
  · isplitr; · iexact HR
    isplitl [HO]; · iassumption
    isplitl [Hcb] <;> iassumption
  iintro ⟨HO, Hpb, Hfree⟩
  ihave Hex := (exchanges_open c) $$ [Hfree Hts Htr Hcr Hpr]
  · isplitl [Hfree]; · iassumption
    isplitl [Hts]; · iassumption
    isplitl [Htr]; · iassumption
    isplitl [Hcr] <;> iassumption
  have eex := Entails.of_eq (bigSep_six fun y : Bool × Fin 3 => (bigSep Finset.univ (exIn y.1 y.2 c) : sProp 𝕄))
  ihave Hex := eex $$ Hex
  icases Hex with ⟨Ez0, Ep0, Ez1, Ep1, Ez2, Ep2⟩
  -- the first layer's two exchanges
  iapply (wp_exchange m K false 0 c 5 (by decide) _ _ _ (dev16 c) (dev17 c) (dev18 c)) $$ [Hz0 HO Ez0]
  · isplitr; · iexact HR
    isplitl [Hz0]; · iexact Hz0
    isplitl [HO]; · iexact HO
    iexact Ez0
  iintro ⟨HO, Xz0⟩
  iapply (wp_put m true 0 c _ shapeCasts_S128x128_S1x1x128x128 rfl) $$ Hp0
  iintro Hp0
  iapply (wp_exchange m K true 0 c 4 (by decide) _ _ _ (dev19 c) (dev20 c) (dev21 c)) $$ [Hp0 HO Ep0]
  · isplitr; · iexact HR
    isplitl [Hp0]; · iexact Hp0
    isplitl [HO]; · iexact HO
    iexact Ep0
  iintro ⟨HO, Xp0⟩
  -- the second layer
  iapply (wp_load_as c (Memref.readAt_unit_zero (Elt F) cc0_stg3_0 hz _ _)) $$ Hi1
  iintro Hi1
  iapply (wp_load_as c (Memref.readAt_unit_zero (Elt F) cc0_stg4_0 hz _ _)) $$ Ho1
  iintro Ho1
  iapply (wp_put m false 1 c _ shapeCasts_S128x128_S1x1x128x128 rfl) $$ Hz1
  iintro Hz1
  iapply (wp_exchange m K false 1 c 3 (by decide) _ _ _ (dev22 c) (dev23 c) (dev24 c)) $$ [Hz1 HO Ez1]
  · isplitr; · iexact HR
    isplitl [Hz1]; · iexact Hz1
    isplitl [HO]; · iexact HO
    iexact Ez1
  iintro ⟨HO, Xz1⟩
  iapply (wp_put m true 1 c _ shapeCasts_S128x128_S1x1x128x128 rfl) $$ Hp1
  iintro Hp1
  iapply (wp_exchange m K true 1 c 2 (by decide) _ _ _ (dev25 c) (dev26 c) (dev27 c)) $$ [Hp1 HO Ep1]
  · isplitr; · iexact HR
    isplitl [Hp1]; · iexact Hp1
    isplitl [HO]; · iexact HO
    iexact Ep1
  iintro ⟨HO, Xp1⟩
  -- the third layer
  iapply (wp_load_as c (Memref.readAt_unit_zero (Elt F) cc0_stg5_0 hz _ _)) $$ Hi2
  iintro Hi2
  iapply (wp_load_as c (Memref.readAt_unit_zero (Elt F) cc0_stg6_0 hz _ _)) $$ Ho2
  iintro Ho2
  iapply (wp_put m false 2 c _ shapeCasts_S128x128_S1x1x128x128 rfl) $$ Hz2
  iintro Hz2
  iapply (wp_exchange m K false 2 c 1 (by decide) _ _ _ (dev28 c) (dev29 c) (dev30 c)) $$ [Hz2 HO Ez2]
  · isplitr; · iexact HR
    isplitl [Hz2]; · iexact Hz2
    isplitl [HO]; · iexact HO
    iexact Ez2
  iintro ⟨HO, Xz2⟩
  iapply (wp_put m true 2 c _ shapeCasts_S128x128_S1x1x128x128 rfl) $$ Hp2
  iintro Hp2
  iapply (wp_exchange m K true 2 c 0 (by decide) _ _ _ (dev31 c) (dev32 c) (dev33 c)) $$ [Hp2 HO Ep2]
  · isplitr; · iexact HR
    isplitl [Hp2]; · iexact Hp2
    isplitl [HO]; · iexact HO
    iexact Ep2
  iintro ⟨HO, Xp2⟩
  -- the output
  iapply (wp_store_as c (Memref.write_access_unit_zero_univ (Elt F) cc0_stg7_0 hz _ _ (outVal m c))) $$ Hout
  iintro Hout
  -- the copies have left
  have eps := Entails.of_eq ((by_exchange fun x : Copy => (atPos ER (sendCell x.1 x.2.1 x.2.2 c) 0 ∅ 0 : sProp 𝕄)).trans
    (bigSep_six fun y : Bool × Fin 3 => (bigSep Finset.univ fun j => atPos ER (sendCell y.1 y.2 j c) 0 ∅ 0 : sProp 𝕄)))
  ihave Hps := eps $$ Hps
  icases Hps with ⟨Sz0, Sp0, Sz1, Sp1, Sz2, Sp2⟩
  ihave Xz0 := (exOut_split m false 0 c) $$ Xz0
  icases Xz0 with ⟨Cz0, Rz0, Tz0⟩
  iapply (wp_left m K false 0 c (slot_credit false 0 0) (slot_credit false 0 0) (slot_credit false 0 0)) $$ [HO Cz0 Sz0]
  · isplitr; · iexact HR
    isplitl [HO]; · iexact HO
    isplitl [Cz0]; · iexact Cz0
    iexact Sz0
  iintro ⟨HO, Sz0, Hz0⟩
  ihave Xp0 := (exOut_split m true 0 c) $$ Xp0
  icases Xp0 with ⟨Cp0, Rp0, Tp0⟩
  iapply (wp_left m K true 0 c (slot_credit true 0 0) (slot_credit true 0 0) (slot_credit true 0 0)) $$ [HO Cp0 Sp0]
  · isplitr; · iexact HR
    isplitl [HO]; · iexact HO
    isplitl [Cp0]; · iexact Cp0
    iexact Sp0
  iintro ⟨HO, Sp0, Hp0⟩
  ihave Xz1 := (exOut_split m false 1 c) $$ Xz1
  icases Xz1 with ⟨Cz1, Rz1, Tz1⟩
  iapply (wp_left m K false 1 c (slot_credit false 1 0) (slot_credit false 1 0) (slot_credit false 1 0)) $$ [HO Cz1 Sz1]
  · isplitr; · iexact HR
    isplitl [HO]; · iexact HO
    isplitl [Cz1]; · iexact Cz1
    iexact Sz1
  iintro ⟨HO, Sz1, Hz1⟩
  ihave Xp1 := (exOut_split m true 1 c) $$ Xp1
  icases Xp1 with ⟨Cp1, Rp1, Tp1⟩
  iapply (wp_left m K true 1 c (slot_credit true 1 0) (slot_credit true 1 0) (slot_credit true 1 0)) $$ [HO Cp1 Sp1]
  · isplitr; · iexact HR
    isplitl [HO]; · iexact HO
    isplitl [Cp1]; · iexact Cp1
    iexact Sp1
  iintro ⟨HO, Sp1, Hp1⟩
  ihave Xz2 := (exOut_split m false 2 c) $$ Xz2
  icases Xz2 with ⟨Cz2, Rz2, Tz2⟩
  iapply (wp_left m K false 2 c (slot_credit false 2 0) (slot_credit false 2 0) (slot_credit false 2 0)) $$ [HO Cz2 Sz2]
  · isplitr; · iexact HR
    isplitl [HO]; · iexact HO
    isplitl [Cz2]; · iexact Cz2
    iexact Sz2
  iintro ⟨HO, Sz2, Hz2⟩
  ihave Xp2 := (exOut_split m true 2 c) $$ Xp2
  icases Xp2 with ⟨Cp2, Rp2, Tp2⟩
  iapply (wp_left m K true 2 c (slot_credit true 2 0) (slot_credit true 2 0) (slot_credit true 2 0)) $$ [HO Cp2 Sp2]
  · isplitr; · iexact HR
    isplitl [HO]; · iexact HO
    isplitl [Cp2]; · iexact Cp2
    iexact Sp2
  iintro ⟨HO, Sp2, Hp2⟩
  -- all gathered again
  have es1 := Entails.of_eq ((by_exchange fun x : Copy => (atPos ER (sendCell x.1 x.2.1 x.2.2 c) 1 ∅ 0 : sProp 𝕄)).trans
    (bigSep_six fun y : Bool × Fin 3 => (bigSep Finset.univ fun j => atPos ER (sendCell y.1 y.2 j c) 1 ∅ 0 : sProp 𝕄))).symm
  ihave Hps := es1 $$ [Sz0 Sp0 Sz1 Sp1 Sz2 Sp2]
  · isplitl [Sz0]; · iexact Sz0
    isplitl [Sp0]; · iexact Sp0
    isplitl [Sz1]; · iexact Sz1
    isplitl [Sp1]; · iexact Sp1
    isplitl [Sz2]; · iexact Sz2
    iexact Sp2
  have er1 := Entails.of_eq ((by_exchange fun x : Copy => (atPos ER (recvCell x.1 x.2.1 x.2.2 c) 1 ∅ 0 : sProp 𝕄)).trans
    (bigSep_six fun y : Bool × Fin 3 => (bigSep Finset.univ fun j => atPos ER (recvCell y.1 y.2 j c) 1 ∅ 0 : sProp 𝕄))).symm
  ihave Hpr := er1 $$ [Rz0 Rp0 Rz1 Rp1 Rz2 Rp2]
  · isplitl [Rz0]; · iexact Rz0
    isplitl [Rp0]; · iexact Rp0
    isplitl [Rz1]; · iexact Rz1
    isplitl [Rp1]; · iexact Rp1
    isplitl [Rz2]; · iexact Rz2
    iexact Rp2
  have et1 := Entails.of_eq ((by_exchange fun x : Copy => (slotPts x.1 x.2.1 (Fin.succ x.2.2) c fullShare (held m x.1 c) : sProp 𝕄)).trans
    (bigSep_six fun y : Bool × Fin 3 => (bigSep Finset.univ fun j => slotPts y.1 y.2 (Fin.succ j) c fullShare (held m y.1 c) : sProp 𝕄))).symm
  ihave Hfar := et1 $$ [Tz0 Tp0 Tz1 Tp1 Tz2 Tp2]
  · isplitl [Tz0]; · iexact Tz0
    isplitl [Tp0]; · iexact Tp0
    isplitl [Tz1]; · iexact Tz1
    isplitl [Tp1]; · iexact Tp1
    isplitl [Tz2]; · iexact Tz2
    iexact Tp2
  have eh1 := Entails.of_eq (bigSep_six fun y : Bool × Fin 3 => (slotPts y.1 y.2 0 c fullShare (held m y.1 c) : sProp 𝕄)).symm
  ihave Hnear := eh1 $$ [Hz0 Hp0 Hz1 Hp1 Hz2 Hp2]
  · isplitl [Hz0]; · iexact Hz0
    isplitl [Hp0]; · iexact Hp0
    isplitl [Hz1]; · iexact Hz1
    isplitl [Hp1]; · iexact Hp1
    isplitl [Hz2]; · iexact Hz2
    iexact Hp2
  ihave Hbuf := (buffers_close m c) $$ [Hnear Hfar]
  · isplitl [Hnear]; · iexact Hnear
    iexact Hfar
  rw [wp_ret]
  imod (close_all m K c) $$ [Hidle Hps Hpr Hpb] with ⟨Hown, Hbar⟩
  · isplitr; · iexact HR
    isplitl [Hidle]; · iexact Hidle
    isplitl [Hps]; · iexact Hps
    isplitl [Hpr]; · iexact Hpr
    iexact Hpb
  imodintro
  iapply Hend
  unfold bodyEnd quiet inputs
  isplitl [Hbuf Hown Hbar]
  · isplitl [Hbuf]; · iexact Hbuf
    isplitl [Hown]; · iexact Hown
    iexact Hbar
  isplitl [HO]; · iexact HO
  isplitr [Hout]
  · isplitl [Hx]; · iexact Hx
    isplitl [Hi0]; · iexact Hi0
    isplitl [Ho0]; · iexact Ho0
    isplitl [Hi1]; · iexact Hi1
    isplitl [Ho1]; · iexact Ho1
    isplitl [Hi2]; · iexact Hi2
    iexact Ho2
  iexact Hout

end Cert.Swap

end
-- ==== Proof.Swap.Credit.lean ====
/-
# What the devices owe one device at launch

Each of the fifteen others owes its barrier semaphore one unit, and the origin of each copy owes that copy's arrival.
-/
module

public import proofs.«01_k».proof.Proof.Swap.Body

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem recv_iff {k k' : Bool} {l l' j j' : Fin 3} {c c' : Dev nD} :
    recvCell k l j c = recvCell k' l' j' c' ↔ k = k' ∧ l = l' ∧ j = j' ∧ c = c' := by
  refine ⟨fun h => ?_, fun ⟨h1, h2, h3, h4⟩ => by subst h1 h2 h3 h4; rfl⟩
  have e := kcell_injective (a₁ := (c, some (true, k, l, j.succ))) (a₂ := (c', some (true, k', l', j'.succ))) h
  simp only [Prod.mk.injEq, Option.some.injEq, Fin.succ_inj, true_and] at e
  exact ⟨e.2.1, e.2.2.1, e.2.2.2, e.1⟩

theorem bar_iff {c c' : Dev nD} : barCell c = barCell c' ↔ c = c' :=
  ⟨fun h => congrArg Prod.fst (kcell_injective (a₁ := (c, none)) (a₂ := (c', none)) h), fun h => h ▸ rfl⟩

theorem recv_ne_bar {k : Bool} {l j : Fin 3} {c d : Dev nD} : recvCell k l j c ≠ barCell d := fun h => by
  have e := congrArg Prod.snd (kcell_injective (a₁ := (c, some (true, k, l, j.succ))) (a₂ := (d, none)) h)
  cases e

/-! ## The barrier's units -/

/-- The copies owe no barrier. -/
theorem owedLeft_bar (d c : Dev nD) (r : ℕ) : owedLeft d r (barCell c) () = 0 := by
  by_contra h
  obtain ⟨k, l, j, e, -⟩ := pos_owedLeft (Nat.pos_of_ne_zero h)
  exact recv_ne_bar e.symm

theorem owedSig_bar (d c : Dev nD) : ∀ r, r ≤ 15 → owedSig d r (barCell c) () = ∑ i ∈ rest r, if fwd d i = c then 1 else 0
  | 0, _ => by rw [rest_none, Finset.sum_empty]; exact owedLeft_bar d c 6
  | r + 1, h => by
    rw [rest_succ r h, Finset.sum_insert (sigNo_not_mem r h), ← owedSig_bar d c r (Nat.le_of_succ_le h)]
    show (owedSig d r + tallyAt (barCell (fwd d (sigNo r))) () 1) (barCell c) () = _
    rw [Pi.add_apply, Finsupp.add_apply, tallyAt_apply, Nat.add_comm]
    congr 1
    refine if_congr ?_ rfl rfl
    rw [and_iff_left rfl, bar_iff, eq_comm]

/-- The fifteen others owe a unit each. -/
theorem sum_bar (c : Dev nD) : ∑ d : Dev nD, O₀ d (barCell c) () = 15 := by
  unfold O₀
  rw [Finset.sum_congr rfl fun d _ => owedSig_bar d c 15 (le_refl _), rest_all, Finset.sum_comm]
  have h : ∀ i : Fin 15, (∑ d : Dev nD, if fwd d i = c then 1 else 0) = 1 := fun i => by
    rw [Finset.sum_congr rfl fun d _ => if_congr (show fwd d i = c ↔ d = bwd c i from
      ⟨fun e => by rw [← e, bwd_fwd], fun e => by rw [e, fwd_bwd]⟩) rfl rfl]
    rw [Finset.sum_ite_eq' Finset.univ (bwd c i) fun _ => 1, if_pos (Finset.mem_univ _)]
  rw [Finset.sum_congr rfl fun i _ => h i, Finset.sum_const, Finset.card_univ, Fintype.card_fin, smul_eq_mul]

/-! ## The arrivals -/

theorem triOwed_recv (k' : Bool) (l' : Fin 3) (d : Dev nD) (O : CellTallies nD τ sig Unit) (k : Bool) (l j : Fin 3) (c : Dev nD) :
    triOwed k' l' d O (recvCell k l j c) () = O (recvCell k l j c) () + if k = k' ∧ l = l' ∧ tgt k d j.succ = c then N else 0 := by
  unfold triOwed
  simp only [Pi.add_apply, Finsupp.add_apply, tallyAt_apply, recv_iff, and_true]
  have hj : ∀ i : Fin 3, (if k = k' ∧ l = l' ∧ j = i ∧ c = tgt k' d i.succ then N else 0)
      = if j = i then (if k = k' ∧ l = l' ∧ tgt k d j.succ = c then N else 0) else 0 := fun i => by
    by_cases h : j = i
    · subst h
      rw [if_pos rfl]
      refine if_congr ⟨fun ⟨a, b, _, e⟩ => ⟨a, b, ?_⟩, fun ⟨a, b, e⟩ => ⟨a, b, rfl, ?_⟩⟩ rfl rfl
      · rw [a, e]
      · rw [← a, e]
    · rw [if_neg h, if_neg fun e => h e.2.2.1]
  rw [hj 0, hj 1, hj 2]
  have h3 : ∀ (j : Fin 3) (a n : ℕ), a + (if j = 2 then n else 0) + (if j = 1 then n else 0) + (if j = 0 then n else 0) = a + n := by
    intro j a n; fin_cases j <;> simp
  exact h3 j _ _

theorem owedSig_recv (d : Dev nD) (k : Bool) (l j : Fin 3) (c : Dev nD) : ∀ r, owedSig d r (recvCell k l j c) () = owedLeft d 6 (recvCell k l j c) ()
  | 0 => rfl
  | r + 1 => by
    rw [← owedSig_recv d k l j c r]
    show (owedSig d r + tallyAt (barCell (fwd d (sigNo r))) () 1) (recvCell k l j c) () = _
    rw [Pi.add_apply, Finsupp.add_apply, tallyAt_apply, if_neg fun h => recv_ne_bar h.1, Nat.add_zero]

theorem owed_recv (d : Dev nD) (k : Bool) (l j : Fin 3) (c : Dev nD) : O₀ d (recvCell k l j c) () = if tgt k d j.succ = c then N else 0 := by
  unfold O₀
  rw [owedSig_recv]
  simp only [owedLeft, phase, triOwed_recv]
  show 0 + _ + _ + _ + _ + _ + _ = _
  have h : ∀ (k : Bool) (l : Fin 3) (p : Prop) [Decidable p] (n : ℕ), 0 + (if k = true ∧ l = 2 ∧ p then n else 0) + (if k = false ∧ l = 2 ∧ p then n else 0)
      + (if k = true ∧ l = 1 ∧ p then n else 0) + (if k = false ∧ l = 1 ∧ p then n else 0) + (if k = true ∧ l = 0 ∧ p then n else 0)
      + (if k = false ∧ l = 0 ∧ p then n else 0) = if p then n else 0 := by
    intro k l p _ n
    cases k <;> fin_cases l <;> simp
  exact h k l _ N

theorem sum_recv (k : Bool) (l j : Fin 3) (c : Dev nD) : ∑ d : Dev nD, O₀ d (recvCell k l j c) () = N := by
  rw [Finset.sum_congr rfl fun d _ => owed_recv d k l j c,
    Finset.sum_congr rfl fun d _ => if_congr (show tgt k d j.succ = c ↔ d = org k c j.succ from
      ⟨fun e => by rw [← e, org_tgt], fun e => by rw [e, tgt_org]⟩) rfl rfl,
    Finset.sum_ite_eq' Finset.univ (org k c j.succ) fun _ => N, if_pos (Finset.mem_univ _)]

/-! ## The credit -/

theorem tally_of_sum (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

omit [FloatOps F] in
/-- A device's credit at launch. -/
theorem launch_creds (c : Dev nD) : (Pipeline.launchCred O₀ c : sProp 𝕄) ⊢ creds c := by
  let cr : SemLoc sig → sProp 𝕄 := fun s => cred (tallyOn ((c.tc : Thread nD τ), s) (launchCredit (Pipeline.owing O₀) 0 ((c.tc : Thread nD τ), s)))
  have h1 : bigSep Finset.univ cr ⊢ bigSep (Finset.univ.map ⟨csem, csem_injective⟩) cr := bigSep_subset (Finset.subset_univ _)
  have h2 : bigSep (Finset.univ.map ⟨csem, csem_injective⟩) cr = bigSep Finset.univ fun y : Option Own => cr (csem y) := bigSep_map _
  have h3 := Entails.of_eq (bigSep_option fun y : Option Own => cr (csem y))
  have h4 := Entails.of_eq (own_split fun x : Own => cr (csem (some x)))
  unfold Pipeline.launchCred
  refine h1.trans ((Entails.of_eq h2).trans (h3.trans ?_))
  unfold creds
  iintro ⟨HB, HO⟩
  ihave HO := h4 $$ HO
  icases HO with ⟨-, -, HR⟩
  isplitl [HB]
  · have e : cr (csem none) = cred (tallyAt (barCell c) () 15) := congrArg cred (tally_of_sum _ _ (sum_bar c))
    rw [← e]; iexact HB
  · have e : (bigSep Finset.univ fun x : Copy => cr (csem (some (true, x.1, x.2.1, x.2.2.succ))))
        = bigSep Finset.univ fun x : Copy => cred (tallyAt (recvCell x.1 x.2.1 x.2.2 c) () N) :=
      bigSep_congr fun x _ => congrArg cred (tally_of_sum _ _ (sum_recv x.1 x.2.1 x.2.2 c))
    rw [← e]; iexact HR

end Cert.Swap

end
-- ==== Proof.Swap.Launch.lean ====
/-
# The launch

The body's triple for the staged call, what the launch deals each device, and the run of the whole program: every device
ends with its output written, its arguments as they were and every semaphore at zero.
-/
module

public import proofs.«01_k».proof.Proof.Swap.Run
public import proofs.«01_k».proof.Proof.Swap.Credit
public import Idealize.ShloMosaic.Lib.Pipeline.Launch
public import Idealize.ShloMosaic.Lib.Quiescent
public import Idealize.ShloMosaic.Lib.Pipeline.CollectiveSegs

@[expose] public section

set_option maxRecDepth 16384
set_option backward.proofsInPublic true

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The staged call's data -/

/-- What a device's body starts from, its buffers apart. -/
def start (c : Dev nD) : sProp 𝕄 := iprop((∃ K, records m K ∗ linear c) ∗ creds c)

abbrev Φ₀ (c : Dev nD) : sProp 𝕄 := iprop(start m c ∗ buffers c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wi0 m c
    | ⟨2, _⟩ => wo0 m c
    | ⟨3, _⟩ => wi1 m c
    | ⟨4, _⟩ => wo1 m c
    | ⟨5, _⟩ => wi2 m c
    | ⟨6, _⟩ => wo2 m c
    | ⟨7, _⟩ => outVal m c
  Φ t := match t with
    | ⟨0, _⟩ => Φ₀ m c
    | ⟨_ + 1, _⟩ => quiet c
  q _ := fullShare
  owed t := match t with
    | ⟨0, _⟩ => O₀ c
    | ⟨_ + 1, _⟩ => 0

/-! ## The body's triple -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m ρ 0 c).before (0 : Fin 8) t0_0 d = xIn m c := by
  unfold Dat.before; rw [if_pos (fetch0_0 t0_0)]; rfl
theorem before_1 (c : Dev nD) (d) : (dats m ρ 0 c).before (1 : Fin 8) t0_0 d = wi0 m c := by
  unfold Dat.before; rw [if_pos (fetch0_1 t0_0)]; rfl
theorem before_2 (c : Dev nD) (d) : (dats m ρ 0 c).before (2 : Fin 8) t0_0 d = wo0 m c := by
  unfold Dat.before; rw [if_pos (fetch0_2 t0_0)]; rfl
theorem before_3 (c : Dev nD) (d) : (dats m ρ 0 c).before (3 : Fin 8) t0_0 d = wi1 m c := by
  unfold Dat.before; rw [if_pos (fetch0_3 t0_0)]; rfl
theorem before_4 (c : Dev nD) (d) : (dats m ρ 0 c).before (4 : Fin 8) t0_0 d = wo1 m c := by
  unfold Dat.before; rw [if_pos (fetch0_4 t0_0)]; rfl
theorem before_5 (c : Dev nD) (d) : (dats m ρ 0 c).before (5 : Fin 8) t0_0 d = wi2 m c := by
  unfold Dat.before; rw [if_pos (fetch0_5 t0_0)]; rfl
theorem before_6 (c : Dev nD) (d) : (dats m ρ 0 c).before (6 : Fin 8) t0_0 d = wo2 m c := by
  unfold Dat.before; rw [if_pos (fetch0_6 t0_0)]; rfl

/-- All staging buffers at the body's start. -/
def stagesBefore (c : Dev nD) : sProp 𝕄 :=
  iprop((∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))

/-- And at its end. -/
def stagesAfter (c : Dev nD) : sProp 𝕄 :=
  iprop(stg c cc0_stg0_0 (xIn m c) ∗ stg c cc0_stg1_0 (wi0 m c) ∗ stg c cc0_stg2_0 (wo0 m c) ∗ stg c cc0_stg3_0 (wi1 m c)
    ∗ stg c cc0_stg4_0 (wo1 m c) ∗ stg c cc0_stg5_0 (wi2 m c) ∗ stg c cc0_stg6_0 (wo2 m c) ∗ stg c cc0_stg7_0 (outVal m c))

theorem stages_open (c : Dev nD) : stagesBefore m ρ c ⊢ iprop(inputs m c ∗ ∃ d : Vec F S128x128 .f32, ((c : Thread nD τ).loc cc0_stg7_0) ↦{fullShare} d) := by
  unfold stagesBefore inputs stg
  simp only [before_0, before_1, before_2, before_3, before_4, before_5, before_6]
  iintro ⟨⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩,
    ⟨%d6, %f6, %e6, H6⟩, ⟨%d7, %f7, %e7, H7⟩⟩
  subst e0 e1 e2 e3 e4 e5 e6
  isplitr [H7]
  · isplitl [H0]; · iexact H0
    isplitl [H1]; · iexact H1
    isplitl [H2]; · iexact H2
    isplitl [H3]; · iexact H3
    isplitl [H4]; · iexact H4
    isplitl [H5]; · iexact H5
    iexact H6
  iexists f7; iexact H7

theorem stg_intro (c : Dev nD) (b : Ref sig .tc) (X : b.ty.Contents (Elt F)) :
    ((((c : Thread nD τ).loc b) ↦{fullShare} X) : sProp 𝕄) ⊢ stg c b X := by
  iintro H
  iexists X
  isplitr
  · ipureintro; rfl
  · iexact H

theorem stages_close (c : Dev nD) : iprop(inputs m c ∗ (((c : Thread nD τ).loc cc0_stg7_0) ↦{fullShare} outVal m c)) ⊢ stagesAfter m c := by
  unfold inputs stagesAfter
  iintro ⟨⟨H0, H1, H2, H3, H4, H5, H6⟩, H7⟩
  isplitl [H0]; · iapply (stg_intro c cc0_stg0_0 (xIn m c)) $$ H0
  isplitl [H1]; · iapply (stg_intro c cc0_stg1_0 (wi0 m c)) $$ H1
  isplitl [H2]; · iapply (stg_intro c cc0_stg2_0 (wo0 m c)) $$ H2
  isplitl [H3]; · iapply (stg_intro c cc0_stg3_0 (wi1 m c)) $$ H3
  isplitl [H4]; · iapply (stg_intro c cc0_stg4_0 (wo1 m c)) $$ H4
  isplitl [H5]; · iapply (stg_intro c cc0_stg5_0 (wi2 m c)) $$ H5
  isplitl [H6]; · iapply (stg_intro c cc0_stg6_0 (wo2 m c)) $$ H6
  iapply (stg_intro c cc0_stg7_0 (outVal m c)) $$ H7

def bodyPost (c : Dev nD) : sProp 𝕄 := iprop(quiet c ∗ (dats m ρ 0 c).owesAt () t0_0.succ ∗ stagesAfter m c)

theorem body_step (c : Dev nD) : iprop(Φ₀ m c ∗ (dats m ρ 0 c).owesAt () t0_0.castSucc ∗ stagesBefore m ρ c)
    ⊢ wp frame (wpE (defs₀ (F := F)) 𝒱₀ (c : Thread nD τ) none) Set.univ (kbody (F := F)) fun _ => bodyPost m ρ c := by
  unfold Φ₀ start
  unfold Dat.owesAt Pipeline.owesWithin
  rw [show (dats m ρ 0 c).owed t0_0.castSucc = O₀ c from rfl]
  iintro ⟨⟨⟨⟨%K, HR, Hlin⟩, Hcr⟩, Hbuf⟩, ⟨%W, %hW, HO⟩, Hst⟩
  ihave Hst := (stages_open m ρ c) $$ Hst
  icases Hst with ⟨Hin, %d, Hout⟩
  iapply (sound_body m K c d fun _ => bodyPost m ρ c)
  isplitl
  · isplitl [HR]; · iexact HR
    isplitl [Hlin]; · iexact Hlin
    isplitl [Hcr]; · iexact Hcr
    isplitl [Hbuf]; · iexact Hbuf
    isplitl [HO]
    · unfold debt; iexists W; iexact HO
    isplitl [Hin]; · iexact Hin
    iexact Hout
  · unfold bodyEnd bodyPost debt Dat.owesAt Pipeline.owesWithin
    rw [show (dats m ρ 0 c).owed t0_0.succ = 0 from rfl]
    iintro ⟨Hq, ⟨%W', HO⟩, Hin, Hout⟩
    isplitl [Hq]; · iexact Hq
    isplitl [HO]
    · iexists W'
      isplitr
      · ipureintro; exact fun _ _ => Or.inl trivial
      · iexact HO
    iapply (stages_close m c)
    isplitl [Hin]; · iexact Hin
    iexact Hout

/-- The library's obligation on the body, at every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc ∗ stagesBefore m ρ c)
    ⊢ wp frame (wpE (defs₀ (F := F)) 𝒱₀ (c : Thread nD τ) none) Set.univ (kbody (F := F)) fun _ => bodyPost m ρ c
  exact body_step m ρ c

/-! ## What the launch deals -/

/-- The semaphores that are the kernel's own. -/
abbrev osem : Own → SemLoc sig := fun x => csem (some x)

theorem ownSemFacts : Pipeline.OwnSemFacts cfg0.spec osem := by decide +kernel

theorem share_eq (c : Dev nD) (w : Fin cfg0.W) : (dats m ρ 0 c).share w = fullShare := by unfold Dat.share; split <;> rfl

def allCells : Finset (GSem nD τ sig) := Finset.univ.map ⟨kcell, kcell_injective⟩

/-- A device's payments to be made: at its barrier, fifteen; at its copies' departures and arrivals, one each. -/
def tokOf (x : Dev nD × (Fin 15 ⊕ Bool × Copy)) : GSem nD τ sig × ℕ × Fin 15 := match x.2 with
  | .inl i => (barCell x.1, 0, i)
  | .inr y => (dmaCell y.1 y.2.1 y.2.2.1 y.2.2.2.succ x.1, 0, 0)

theorem tokOf_injective : Function.Injective tokOf := by
  rintro ⟨c, i | ⟨d, k, l, j⟩⟩ ⟨c', i' | ⟨d', k', l', j'⟩⟩ h
  · have h1 : c = c' := bar_iff.1 (congrArg (fun x => x.1) h)
    have h2 : i = i' := congrArg (fun x => x.2.2) h
    rw [h1, h2]
  · have e := congrArg Prod.snd (kcell_injective (a₁ := (c, none)) (a₂ := (c', some (d', k', l', j'.succ))) (congrArg (fun x => x.1) h))
    cases e
  · have e := congrArg Prod.snd (kcell_injective (a₁ := (c, some (d, k, l, j.succ))) (a₂ := (c', none)) (congrArg (fun x => x.1) h))
    cases e
  · have e := kcell_injective (a₁ := (c, some (d, k, l, j.succ))) (a₂ := (c', some (d', k', l', j'.succ))) (congrArg (fun x => x.1) h)
    simp only [Prod.mk.injEq, Option.some.injEq, Fin.succ_inj] at e
    obtain ⟨rfl, rfl, rfl, rfl, rfl⟩ := e
    rfl

def allToks : Finset (GSem nD τ sig × ℕ × Fin 15) := Finset.univ.map ⟨tokOf, tokOf_injective⟩

def u₀ : UU := (initOf (Pipeline.cells cfgs cellOf_inj) (Pipeline.launchToks cfgs cellOf_inj), initOf allCells allToks)

/-- The tokens of the payments at a device's own semaphores. -/
def toks (c : Dev nD) : sProp 𝕄 :=
  iprop((bigSep Finset.univ fun i : Fin 15 => dutyTok ER (barCell c) 0 i)
    ∗ (bigSep Finset.univ fun x : Copy => dutyTok ER (sendCell x.1 x.2.1 x.2.2 c) 0 0)
    ∗ bigSep Finset.univ fun x : Copy => dutyTok ER (recvCell x.1 x.2.1 x.2.2 c) 0 0)

def G (c : Dev nD) : sProp 𝕄 :=
  iprop((bigSep Finset.univ fun y : Option Own => roundState ER (Rd m) (kcell (c, y)) 0)
    ∗ (bigSep Finset.univ fun y : Option Own => iprop(atPos ER (kcell (c, y)) 0 ∅ 0 ∗ reached ER (kcell (c, y)) 0)) ∗ toks c)

/-- What holds for good, the levels apart. -/
def marks (K : Dev nD × Option Own → ℕ) : sProp 𝕄 :=
  iprop((bigSep Finset.univ fun x => cellInv ER (Rd m) (K x) (kcell x)) ∗ bigSep Finset.univ fun x => reached ER (kcell x) 0)

instance marks_persistent (K : Dev nD × Option Own → ℕ) : BI.Persistent (marks m K) := by unfold marks; infer_instance

def G' (c : Dev nD) : sProp 𝕄 := iprop(∃ K, marks m K ∗ linear c)

omit [FloatOps F] in
theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_sum, bigSep_univ_prod (fun y : Bool × Copy => _), bigSep_bool]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun y : Option Own => Φ (kcell (c, y)) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) : iprop(Pipeline.ownSems0 (Ix := Unit) (Name := ℕ) (U := UU) (Lvl := ℕ) (Val := Elt F) (τ := τ) osem c ∗ unscopedSems0 c)
    ⊢ (bigSep Finset.univ fun y : Option Own => semVal (kcell (c, y)) 0 : sProp 𝕄) := by
  rw [unscopedSems0_eq, bigSep_option]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun y => iprop(∃ κ : ℕ, cellInv ER (Rd m) κ (kcell (c, y))))
          ∗ (bigSep Finset.univ fun y => iprop(atPos ER (kcell (c, y)) 0 ∅ 0 ∗ reached ER (kcell (c, y)) 0)) ∗ toks c) := by
  have hinv : iprop((bigSep Finset.univ fun y : Option Own => semVal (kcell (c, y)) 0) ∗ bigSep Finset.univ fun y : Option Own => roundState ER (Rd m) (kcell (c, y)) 0)
      ⊢ (|={Set.univ}=> bigSep Finset.univ fun y => iprop(∃ κ : ℕ, cellInv ER (Rd m) κ (kcell (c, y))) : sProp 𝕄) := by
    rw [← bigSep_sep']
    exact (bigSep_mono fun y _ => (Rounds.body_intro ER (Rd m) (kcell (c, y))).trans inv_alloc).trans (bigSep_fupd _ _)
  unfold G
  iintro ⟨Hos, Hus, Hst, Hat, Htok⟩
  ihave Hv := (sems0 (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-! ## The tokens go to those who pay -/

def fwdE (i : Fin 15) : Dev nD ≃ Dev nD := ⟨fun c => fwd c i, fun c => bwd c i, fun c => bwd_fwd c i, fun c => fwd_bwd c i⟩
def tgtE (k : Bool) (o : Fin 4) : Dev nD ≃ Dev nD := ⟨fun c => tgt k c o, fun c => org k c o, fun c => org_tgt k c o, fun c => tgt_org k c o⟩

omit [FloatOps F] in
/-- A family over devices and numbers, its device moved by a permutation for each number. -/
theorem bigSep_moved {β : Type} [Fintype β] (e : β → Dev nD ≃ Dev nD) (Φ : Dev nD → β → sProp 𝕄) :
    (bigSep Finset.univ fun c => bigSep Finset.univ fun b => Φ c b) = bigSep Finset.univ fun c => bigSep Finset.univ fun b => Φ (e b c) b := by
  rw [bigSep_univ_comm, bigSep_univ_comm (fun c b => Φ (e b c) b)]
  exact bigSep_congr fun b _ => bigSep_univ_equiv (e b) fun c => Φ c b

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_moved fwdE (fun c i => (dutyTok ER (barCell c) 0 i : sProp 𝕄)),
    bigSep_moved (fun x : Copy => tgtE x.1 x.2.2.succ) (fun c x => (dutyTok ER (recvCell x.1 x.2.1 x.2.2 c) 0 0 : sProp 𝕄))]
  rfl

theorem regroup :
    (bigSep Finset.univ fun c : Dev nD => iprop((bigSep Finset.univ fun y => iprop(∃ κ : ℕ, cellInv ER (Rd m) κ (kcell (c, y))))
          ∗ (bigSep Finset.univ fun y => iprop(atPos ER (kcell (c, y)) 0 ∅ 0 ∗ reached ER (kcell (c, y)) 0)) ∗ toks c) : sProp 𝕄)
      ⊢ bigSep Finset.univ (G' m) := by
  have hlin : iprop((bigSep Finset.univ fun c : Dev nD => bigSep Finset.univ fun y : Option Own => atPos ER (kcell (c, y)) 0 ∅ 0)
      ∗ bigSep Finset.univ fun c : Dev nD => payToks c) ⊢ (bigSep Finset.univ fun c : Dev nD => linear c : sProp 𝕄) := by
    unfold linear; rw [← bigSep_sep']
  rw [bigSep_sep', bigSep_sep', ← bigSep_univ_prod (fun x : Dev nD × Option Own => iprop(∃ κ : ℕ, cellInv ER (Rd m) κ (kcell x))),
    bigSep_congr (s := Finset.univ) (fun (c : Dev nD) _ => bigSep_sep' Finset.univ (fun y : Option Own => (atPos ER (kcell (c, y)) 0 ∅ 0 : sProp 𝕄)) (fun y => reached ER (kcell (c, y)) 0)),
    bigSep_sep', ← bigSep_univ_prod (fun x : Dev nD × Option Own => (reached ER (kcell x) 0 : sProp 𝕄)), toks_around]
  iintro ⟨HI, ⟨Hat, #HR⟩, Htok⟩
  ihave HK := (BI.bigSep_exists_pi Finset.univ (fun (x : Dev nD × Option Own) (κ : ℕ) => (cellInv ER (Rd m) κ (kcell x) : sProp 𝕄))) $$ HI
  icases HK with ⟨%K, #HI⟩
  have hg : ∀ c ∈ (Finset.univ : Finset (Dev nD)), iprop(marks m K ∗ linear c) ⊢ G' m c := fun c _ => by
    unfold G'; iintro H; iexists K; iexact H
  iapply (with_records hg)
  isplitr
  · unfold marks; isplitr; · iexact HI
    iexact HR
  · iapply hlin
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, #Hlev, Hcr, -, HG⟩
  ihave Hc := (launch_creds (F := F) c) $$ Hcr
  imodintro
  unfold start G' marks records
  icases HG with ⟨%K, ⟨#HI, #HR⟩, Hlin⟩
  isplitl
  · isplitr [Hc]
    · iexists K
      isplitr
      · isplitr; · iexact HI
        isplitr; · iexact HR
        iexact Hlev
      iexact Hlin
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ buffers
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = quiet c from rfl, scopedRest0_eq, unscopedSems0_eq]
  unfold quiet buffers Pipeline.ownSems0
  iintro ⟨Hr, Hown, HB⟩
  isplitl [HB]; · iexact HB
  isplitl [Hown]; · iexact Hown
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · exact mayWait_none c _

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of the program on the sixteen devices ends, with every device's arrays at `finalA` and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as it was. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Swap

end
-- ==== Proof.Value.Output.lean ====
/-
# What a device's arrays hold at the end

The body runs once on a device, on the whole arrays: what it reads of an argument is the argument, and what it leaves in
the result's buffer is the result array.
-/
module

public import proofs.«01_k».proof.Proof.Swap.Launch

@[expose] public section

set_option maxRecDepth 16384
set_option backward.proofsInPublic true

noncomputable section

namespace Cert.Swap

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## A window over a whole array -/

section Whole
variable {s : Shape} {e : EltTy} {cs : CoreSpace} (arr : Memref sig .tc .hbm s e) (isOut sync : Bool)
  (stage : Memref sig .tc (.core cs) ⟨s.rank, s.size⟩ e) (sem : DmaSem sig) (ha : arr.IsWhole) (hs : stage.IsWhole)
  (t : Fin Pipeline.Grid.none.N)

/-- Element `y` of the one block of such a window is element `y` of the array. -/
theorem whole_emb (y : s.Idx) : ((Pipeline.Window.whole arr isOut sync stage sem ha hs).rect t).emb y = y := by
  funext a
  refine Fin.ext ?_
  show 0 * s.size a + 1 * (y a).val = (y a).val
  omega

/-- So the block reads as the array. -/
theorem whole_read (X : arr.view.ty.Contents (Elt F)) :
    ((Pipeline.Window.whole arr isOut sync stage sem ha hs).blk t).view.read (Elt F) X = arr.view.read (Elt F) X :=
  funext fun y => congrArg (arr.view.read (Elt F) X) (whole_emb arr isOut sync stage sem ha hs t y)

/-- And it has all of the array's elements. -/
theorem whole_mem (y : s.Idx) : arr.view.emb y ∈ ((Pipeline.Window.whole arr isOut sync stage sem ha hs).blk t).view.set := by
  have h : ((Pipeline.Window.whole arr isOut sync stage sem ha hs).blk t).view.emb y = arr.view.emb y :=
    congrArg arr.view.emb (whole_emb arr isOut sync stage sem ha hs t y)
  rw [← h]
  exact Finset.mem_map_of_mem _ (Finset.mem_univ _)

end Whole

/-! ## What the body reads -/

theorem xIn_eq (c : Dev nD) : xIn m c = m ((c.tc : Thread nD τ).loc main_arg0) :=
  whole_read (Memref.whole main_arg0) false false (stage0_0 0) (sem0_0 0) (Memref.isWhole_whole _) (hstage0_0 0) t0_0 (V m c main_arg0)
theorem wi0_eq (c : Dev nD) : wi0 m c = m ((c.tc : Thread nD τ).loc main_arg1) :=
  whole_read (Memref.whole main_arg1) false false (stage0_1 0) (sem0_1 0) (Memref.isWhole_whole _) (hstage0_1 0) t0_0 (V m c main_arg1)
theorem wo0_eq (c : Dev nD) : wo0 m c = m ((c.tc : Thread nD τ).loc main_arg2) :=
  whole_read (Memref.whole main_arg2) false false (stage0_2 0) (sem0_2 0) (Memref.isWhole_whole _) (hstage0_2 0) t0_0 (V m c main_arg2)
theorem wi1_eq (c : Dev nD) : wi1 m c = m ((c.tc : Thread nD τ).loc main_arg3) :=
  whole_read (Memref.whole main_arg3) false false (stage0_3 0) (sem0_3 0) (Memref.isWhole_whole _) (hstage0_3 0) t0_0 (V m c main_arg3)
theorem wo1_eq (c : Dev nD) : wo1 m c = m ((c.tc : Thread nD τ).loc main_arg4) :=
  whole_read (Memref.whole main_arg4) false false (stage0_4 0) (sem0_4 0) (Memref.isWhole_whole _) (hstage0_4 0) t0_0 (V m c main_arg4)
theorem wi2_eq (c : Dev nD) : wi2 m c = m ((c.tc : Thread nD τ).loc main_arg5) :=
  whole_read (Memref.whole main_arg5) false false (stage0_5 0) (sem0_5 0) (Memref.isWhole_whole _) (hstage0_5 0) t0_0 (V m c main_arg5)
theorem wo2_eq (c : Dev nD) : wo2 m c = m ((c.tc : Thread nD τ).loc main_arg6) :=
  whole_read (Memref.whole main_arg6) false false (stage0_6 0) (sem0_6 0) (Memref.isWhole_whole _) (hstage0_6 0) t0_0 (V m c main_arg6)

/-! ## The arrays at the end -/

/-- The result array holds what the body wrote out. -/
theorem finalA_out (c : Dev nD) : finalA m ρ c 7 = outVal m c :=
  (dats m ρ 0 c).arrAt_eq_of_cover 7 (outVal m c)
    (fun t _ => (whole_read (Memref.whole main_v1) true false (stage0_7 0) (sem0_7 0) (Memref.isWhole_whole _) (hstage0_7 0) t (outVal m c)).symm)
    fun i => ⟨t0_0, flush0_7 _, whole_mem (Memref.whole main_v1) true false (stage0_7 0) (sem0_7 0) (Memref.isWhole_whole _) (hstage0_7 0) t0_0 i⟩

/-- Every device ends with its result at `outVal`, its arguments as launched, and every semaphore at zero. -/
theorem run_kept : θ_run defs (onTc (τ := τ) (main (F := F))) ⟨m, fun _ => 0, ρ⟩ fun r =>
    (∀ c : Dev nD,
      r.2.mem ((c.tc : Thread nD τ).loc main_v1) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 := by
  refine (θ_run defs _ _).mono (fun r h => ⟨fun c => ?_, h.2⟩) (run_main m ρ)
  have kept : ∀ w : Fin cfg0.W, (cfg0.win w).isOut = false →
      r.2.mem ((cfg0.win w).arr.view.loc (c : Thread nD τ)) = m ((cfg0.win w).arr.view.loc (c : Thread nD τ)) :=
    fun w hw => (h.1 c w).trans (finalA_in m ρ c w hw)
  exact ⟨(h.1 c 7).trans (finalA_out m ρ c), kept 0 rfl, kept 1 rfl, kept 2 rfl, kept 3 rfl, kept 4 rfl, kept 5 rfl,
    kept 6 rfl⟩

end Cert.Swap

end
-- ==== Proof.Value.Reference.lean ====
/-
# What the reference computes

The reference's operations on the whole arrays, read at the extended reals: three layers, one after the other.
-/
module

public import proofs.«01_k».proof.Proof.Value.Layer
public import proofs.«01_k».proof.Proof.Gen.ReferenceIdeal.Run
public import Idealize.ShloMosaic.Lib.StackMember

@[expose] public section

set_option maxRecDepth 16384

noncomputable section

namespace Cert.Swap

open Cert.ReferenceIdeal Cert.ReferenceIdeal.Gen
open Idealize.ShloMosaic Idealize.ShloMosaic.TcCoe
open Idealize.SL.Sem
open Idealize.ShloMosaic.ValueIdx

/-- The reference's operations of one layer. -/
def hostLayer {F : FTy → Type} [FloatOps F] (x : FVec F S128x128 .bf16) (w : FVec F S128x4096 .bf16)
    (v : FVec F S4096x128 .bf16) : FVec F S128x128 .bf16 :=
  truncf .bf16 (Host.dotGeneral dot_S128x4096_S4096x128_S128x128_1_0_0_1_n_n none
    (extf .f32 (truncf .bf16 (maximumf
      (extf .f32 (truncf .bf16 (Host.dotGeneral dot_S128x128_S128x4096_S128x4096_1_0_0_1_n_n none
        (extf .f32 x bitsLt_bf16_f32) (extf .f32 w bitsLt_bf16_f32)) bitsLt_bf16_f32) bitsLt_bf16_f32)
      (broadcastInDim S128x4096 ![] bcast_S_S128x4096 (constant S_ .f32 0x00000000#32))) bitsLt_bf16_f32) bitsLt_bf16_f32)
    (extf .f32 v bitsLt_bf16_f32)) bitsLt_bf16_f32

/-- At the extended reals they compute the layer. -/
theorem hostLayer_eq (x : FVec Ideal S128x128 .bf16) (w : FVec Ideal S128x4096 .bf16) (v : FVec Ideal S4096x128 .bf16) :
    hostLayer x w v = layer 4096 x w v := by
  funext i
  obtain ⟨r, l, rfl⟩ : ∃ r l : Fin 128, i = ix2 r l := ⟨i 0, i 1, eq_ix2 i⟩
  rw [layer_apply]
  refine (StackMember.dotGeneral_plain_apply (m := 128) (k := 4096) (n := 128) none _ _ r l).trans ?_
  refine Finset.sum_congr rfl fun h _ => congrArg (· * v (ix2 h l)) ?_
  show max (Host.dotGeneral dot_S128x128_S128x4096_S128x4096_1_0_0_1_n_n none (extf .f32 x bitsLt_bf16_f32)
    (extf .f32 w bitsLt_bf16_f32) (ix2 r h)) (FloatOps.ofBits (F := Ideal) .f32 0x00000000#32) = _
  rw [show FloatOps.ofBits (F := Ideal) .f32 0x00000000#32 = (0 : EReal) from Ideal.ofBits_zero_f32]
  exact congrArg (max · 0) (StackMember.dotGeneral_plain_apply (m := 128) (k := 128) (n := 4096) none _ _ r h)

/-- The three layers of the network on the whole arrays. -/
def network (x : S128x128.Idx → EReal) (w0 : S128x4096.Idx → EReal) (v0 : S4096x128.Idx → EReal)
    (w1 : S128x4096.Idx → EReal) (v1 : S4096x128.Idx → EReal) (w2 : S128x4096.Idx → EReal) (v2 : S4096x128.Idx → EReal) :
    S128x128.Idx → EReal :=
  layer 4096 (layer 4096 (layer 4096 x w0 v0) w1 v1) w2 v2

/-- The network on the arguments a memory of the reference holds. -/
def networkOf (m : (ℓ : Loc nD τ sig) → Buf (Elt Ideal) ℓ) (c : Dev nD) : S128x128.Idx → EReal :=
  network (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The operations of the three layers, as the reference's run composes them, compute the network. -/
theorem host_network (x : FVec Ideal S128x128 .bf16) (w0 : FVec Ideal S128x4096 .bf16) (v0 : FVec Ideal S4096x128 .bf16)
    (w1 : FVec Ideal S128x4096 .bf16) (v1 : FVec Ideal S4096x128 .bf16) (w2 : FVec Ideal S128x4096 .bf16)
    (v2 : FVec Ideal S4096x128 .bf16) :
    extf .f32 (hostLayer (hostLayer (hostLayer x w0 v0) w1 v1) w2 v2) bitsLt_bf16_f32 = network x w0 v0 w1 v1 w2 v2 := by
  rw [hostLayer_eq, hostLayer_eq, hostLayer_eq]
  rfl

/-- The reference's run: its result is the network, its arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = networkOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (host_network _ _ _ _ _ _ _), (h c).2⟩) (Value.run (F := Ideal) m ρ)

end Cert.Swap

end
-- ==== Proof.Value.Equation.lean ====
/-
# The kernel computes the network

If every device holds `x` and its parts of the six weights, then after each layer's two exchanges every device holds the
same array: the layer of the whole weights applied to what it held before. After three layers that is the network.
-/
module

public import proofs.«01_k».proof.Proof.Value.Device
public import proofs.«01_k».proof.Proof.Value.Output
public import proofs.«01_k».proof.Proof.Value.Reference

@[expose] public section

set_option maxRecDepth 16384

noncomputable section

namespace Cert.Swap

open Cert.KernelIdeal Cert.KernelIdeal.Gen
open Idealize.ShloMosaic Idealize.ShloMosaic.TcCoe
open Idealize.ShloMosaic.ValueIdx

/-- The part of a widening weight that belongs to `c`: its own 256 of the 4096 columns. -/
abbrev cols (w : (⟨2, ![128, 4096]⟩ : Shape).Idx → EReal) (c : Fin 16) : (⟨2, ![128, 256]⟩ : Shape).Idx → EReal :=
  Layout.block ⟨2, ![128, 256]⟩ ⟨2, ![128, 4096]⟩ 1 16 c w (by decide)

/-- The part of a narrowing weight that belongs to `c`: its own 256 of the 4096 rows. -/
abbrev rows (v : (⟨2, ![4096, 128]⟩ : Shape).Idx → EReal) (c : Fin 16) : (⟨2, ![256, 128]⟩ : Shape).Idx → EReal :=
  Layout.block ⟨2, ![256, 128]⟩ ⟨2, ![4096, 128]⟩ 0 16 c v (by decide)

/-- One layer on the mesh: partial products of the same `x` with the parts of the weights, exchanged both ways, are the
    layer of the whole weights, on every device. -/
theorem mesh_layer (x : (⟨2, ![128, 128]⟩ : Shape).Idx → EReal) (w : (⟨2, ![128, 4096]⟩ : Shape).Idx → EReal)
    (v : (⟨2, ![4096, 128]⟩ : Shape).Idx → EReal) (c : Dev nD) :
    full (fun d => shard (F := Ideal) x (cols w d) (rows v d)) c = layer 4096 x w v := by
  funext i
  obtain ⟨r, l, rfl⟩ : ∃ r l : Fin 128, i = ix2 r l := ⟨i 0, i 1, eq_ix2 i⟩
  rw [full_apply, layer_cut]
  exact Finset.sum_congr rfl fun d _ => congrFun (shard_eq _ _ _) _

variable (m : (ℓ : Loc nD τ sig) → Buf (Elt Ideal) ℓ)

/-- What every device writes out, when its inputs are `x` and its parts of the weights. -/
theorem outVal_network (x : (⟨2, ![128, 128]⟩ : Shape).Idx → EReal)
    (w0 : (⟨2, ![128, 4096]⟩ : Shape).Idx → EReal) (v0 : (⟨2, ![4096, 128]⟩ : Shape).Idx → EReal)
    (w1 : (⟨2, ![128, 4096]⟩ : Shape).Idx → EReal) (v1 : (⟨2, ![4096, 128]⟩ : Shape).Idx → EReal)
    (w2 : (⟨2, ![128, 4096]⟩ : Shape).Idx → EReal) (v2 : (⟨2, ![4096, 128]⟩ : Shape).Idx → EReal)
    (hx : ∀ c, xIn m c = x) (hw0 : ∀ c, wi0 m c = cols w0 c) (hv0 : ∀ c, wo0 m c = rows v0 c)
    (hw1 : ∀ c, wi1 m c = cols w1 c) (hv1 : ∀ c, wo1 m c = rows v1 c)
    (hw2 : ∀ c, wi2 m c = cols w2 c) (hv2 : ∀ c, wo2 m c = rows v2 c) (c : Dev nD) :
    outVal m c = network x w0 v0 w1 v1 w2 v2 := by
  have h0 : part0 m = fun d => shard (F := Ideal) x (cols w0 d) (rows v0 d) := by
    rw [part0_eq]; funext d; rw [hx, hw0, hv0]
  have h1 : part1 m = fun d => shard (F := Ideal) (layer 4096 x w0 v0) (cols w1 d) (rows v1 d) := by
    rw [part1_eq]; funext d; rw [h0, hw1, hv1, mesh_layer]; rfl
  have h2 : part2 m = fun d => shard (F := Ideal) (layer 4096 (layer 4096 x w0 v0) w1 v1) (cols w2 d) (rows v2 d) := by
    rw [part2_eq]; funext d; rw [h1, hw2, hv2, mesh_layer]; rfl
  rw [outVal_eq, h2, mesh_layer]
  rfl

end Cert.Swap

end
-- ==== Proof.lean ====
/-
# The claims

Assembled from the run of the kernel on its sixteen devices (Proof/Swap), the run of the reference, and the equation
between the two results (Proof/Value).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Swap.Same
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel on machine floats: it ends on every device, keeps its arguments and leaves every semaphore at zero. -/
theorem frame_kernel : Cert.quiescent_Kernel := by
  intro m ρ _
  rw [Cert.Swap.tables_same]
  exact (θ_run Cert.KernelIdeal.defs _ _).mono (fun _ h => ⟨fun c => (h.1 c).2, h.2⟩) (Cert.Swap.run_kept (F := Bits) m ρ)

/-- The same over the extended reals. -/
theorem frame_kernelIdeal : Cert.quiescent_KernelIdeal := fun m ρ _ =>
  (θ_run Cert.KernelIdeal.defs _ _).mono (fun _ h => ⟨fun c => (h.1 c).2, h.2⟩) (Cert.Swap.run_kept (F := Ideal) m ρ)

/-- The reference keeps its arguments; it has no semaphores. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Swap.reference_run m ρ)

/-- Both programs are one program: nothing was rewritten. -/
theorem preserves : Cert.preserves_Kernel_KernelIdeal := trivial

/-- Every device of the kernel and the reference end with the same array: the three layers of the network applied to the
    reference's arguments. -/
theorem algebraic : Cert.algebraic_KernelIdeal_ReferenceIdeal := by
  intro m ρ m' ρ' _ hagree
  refine ⟨Cert.Swap.networkOf m' 0, ?_, ?_⟩
  · refine (θ_run Cert.KernelIdeal.defs _ _).mono (fun _ h c => ⟨(h.1 c).1.trans ?_, (h.1 c).2⟩)
      (Cert.Swap.run_kept (F := Ideal) m ρ)
    exact Cert.Swap.outVal_network m _ _ _ _ _ _ _
      (fun d => (Cert.Swap.xIn_eq m d).trans (hagree d).1)
      (fun d => (Cert.Swap.wi0_eq m d).trans (hagree d).2.1)
      (fun d => (Cert.Swap.wo0_eq m d).trans (hagree d).2.2.1)
      (fun d => (Cert.Swap.wi1_eq m d).trans (hagree d).2.2.2.1)
      (fun d => (Cert.Swap.wo1_eq m d).trans (hagree d).2.2.2.2.1)
      (fun d => (Cert.Swap.wi2_eq m d).trans (hagree d).2.2.2.2.2.1)
      (fun d => (Cert.Swap.wo2_eq m d).trans (hagree d).2.2.2.2.2.2) c
  · exact (θ_run Cert.ReferenceIdeal.defs _ _).mono (fun _ h => h 0) (Cert.Swap.reference_run m' ρ')

theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
